-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32x512 : Shape := ⟨2, ![32, 512]⟩
abbrev S32 : Shape := ⟨1, ![32]⟩
abbrev S_ : Shape := ⟨0, ![]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S1 : Shape := ⟨1, ![1]⟩
abbrev S1023x512 : Shape := ⟨2, ![1023, 512]⟩
abbrev S1022x512 : Shape := ⟨2, ![1022, 512]⟩
abbrev S1020x512 : Shape := ⟨2, ![1020, 512]⟩
abbrev S1016x512 : Shape := ⟨2, ![1016, 512]⟩
abbrev S1008x512 : Shape := ⟨2, ![1008, 512]⟩
abbrev S992x512 : Shape := ⟨2, ![992, 512]⟩
abbrev S960x512 : Shape := ⟨2, ![960, 512]⟩
abbrev S896x512 : Shape := ⟨2, ![896, 512]⟩
abbrev S768x512 : Shape := ⟨2, ![768, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S32x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_404 : BitVec 32 := 0#32
  let c0_i32_402 : BitVec 32 := 0#32
  let c1_i32_403 : BitVec 32 := 1#32
  let v532 : BitVec 32 := Scalar.muli c0_i32_402 c1_i32_403
  let v533 : BitVec 32 := Scalar.addi c0_i32_404 v532
  v533.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_404 : BitVec 32 := 0#32
  let c1_i32_402 : BitVec 32 := 1#32
  let c1_i32_403 : BitVec 32 := 1#32
  let v532 : BitVec 32 := Scalar.muli c1_i32_402 c1_i32_403
  let v533 : BitVec 32 := Scalar.addi c0_i32_404 v532
  v533.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_404 : BitVec 32 := 0#32
  let c2_i32_402 : BitVec 32 := 2#32
  let c1_i32_403 : BitVec 32 := 1#32
  let v532 : BitVec 32 := Scalar.muli c2_i32_402 c1_i32_403
  let v533 : BitVec 32 := Scalar.addi c0_i32_404 v532
  v533.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_404 : BitVec 32 := 0#32
  let c3_i32_402 : BitVec 32 := 3#32
  let c1_i32_403 : BitVec 32 := 1#32
  let v532 : BitVec 32 := Scalar.muli c3_i32_402 c1_i32_403
  let v533 : BitVec 32 := Scalar.addi c0_i32_404 v532
  v533.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_404 : BitVec 32 := 0#32
  let c4_i32_402 : BitVec 32 := 4#32
  let c1_i32_403 : BitVec 32 := 1#32
  let v532 : BitVec 32 := Scalar.muli c4_i32_402 c1_i32_403
  let v533 : BitVec 32 := Scalar.addi c0_i32_404 v532
  v533.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_404 : BitVec 32 := 0#32
  let c5_i32_402 : BitVec 32 := 5#32
  let c1_i32_403 : BitVec 32 := 1#32
  let v532 : BitVec 32 := Scalar.muli c5_i32_402 c1_i32_403
  let v533 : BitVec 32 := Scalar.addi c0_i32_404 v532
  v533.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_404 : BitVec 32 := 0#32
  let c6_i32_402 : BitVec 32 := 6#32
  let c1_i32_403 : BitVec 32 := 1#32
  let v532 : BitVec 32 := Scalar.muli c6_i32_402 c1_i32_403
  let v533 : BitVec 32 := Scalar.addi c0_i32_404 v532
  v533.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_404 : BitVec 32 := 0#32
  let c7_i32_402 : BitVec 32 := 7#32
  let c1_i32_403 : BitVec 32 := 1#32
  let v532 : BitVec 32 := Scalar.muli c7_i32_402 c1_i32_403
  let v533 : BitVec 32 := Scalar.addi c0_i32_404 v532
  v533.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_404 : BitVec 32 := 0#32
  let c8_i32_402 : BitVec 32 := 8#32
  let c1_i32_403 : BitVec 32 := 1#32
  let v532 : BitVec 32 := Scalar.muli c8_i32_402 c1_i32_403
  let v533 : BitVec 32 := Scalar.addi c0_i32_404 v532
  v533.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_404 : BitVec 32 := 0#32
  let c9_i32_402 : BitVec 32 := 9#32
  let c1_i32_403 : BitVec 32 := 1#32
  let v532 : BitVec 32 := Scalar.muli c9_i32_402 c1_i32_403
  let v533 : BitVec 32 := Scalar.addi c0_i32_404 v532
  v533.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_404 : BitVec 32 := 0#32
  let c10_i32_402 : BitVec 32 := 10#32
  let c1_i32_403 : BitVec 32 := 1#32
  let v532 : BitVec 32 := Scalar.muli c10_i32_402 c1_i32_403
  let v533 : BitVec 32 := Scalar.addi c0_i32_404 v532
  v533.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_404 : BitVec 32 := 0#32
  let c11_i32_402 : BitVec 32 := 11#32
  let c1_i32_403 : BitVec 32 := 1#32
  let v532 : BitVec 32 := Scalar.muli c11_i32_402 c1_i32_403
  let v533 : BitVec 32 := Scalar.addi c0_i32_404 v532
  v533.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_404 : BitVec 32 := 0#32
  let c12_i32_402 : BitVec 32 := 12#32
  let c1_i32_403 : BitVec 32 := 1#32
  let v532 : BitVec 32 := Scalar.muli c12_i32_402 c1_i32_403
  let v533 : BitVec 32 := Scalar.addi c0_i32_404 v532
  v533.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_404 : BitVec 32 := 0#32
  let c13_i32_402 : BitVec 32 := 13#32
  let c1_i32_403 : BitVec 32 := 1#32
  let v532 : BitVec 32 := Scalar.muli c13_i32_402 c1_i32_403
  let v533 : BitVec 32 := Scalar.addi c0_i32_404 v532
  v533.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_404 : BitVec 32 := 0#32
  let c14_i32_402 : BitVec 32 := 14#32
  let c1_i32_403 : BitVec 32 := 1#32
  let v532 : BitVec 32 := Scalar.muli c14_i32_402 c1_i32_403
  let v533 : BitVec 32 := Scalar.addi c0_i32_404 v532
  v533.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_404 : BitVec 32 := 0#32
  let c15_i32_402 : BitVec 32 := 15#32
  let c1_i32_403 : BitVec 32 := 1#32
  let v532 : BitVec 32 := Scalar.muli c15_i32_402 c1_i32_403
  let v533 : BitVec 32 := Scalar.addi c0_i32_404 v532
  v533.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_404 : BitVec 32 := 0#32
  let c16_i32_402 : BitVec 32 := 16#32
  let c1_i32_403 : BitVec 32 := 1#32
  let v532 : BitVec 32 := Scalar.muli c16_i32_402 c1_i32_403
  let v533 : BitVec 32 := Scalar.addi c0_i32_404 v532
  v533.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_404 : BitVec 32 := 0#32
  let c17_i32_402 : BitVec 32 := 17#32
  let c1_i32_403 : BitVec 32 := 1#32
  let v532 : BitVec 32 := Scalar.muli c17_i32_402 c1_i32_403
  let v533 : BitVec 32 := Scalar.addi c0_i32_404 v532
  v533.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_404 : BitVec 32 := 0#32
  let c18_i32_402 : BitVec 32 := 18#32
  let c1_i32_403 : BitVec 32 := 1#32
  let v532 : BitVec 32 := Scalar.muli c18_i32_402 c1_i32_403
  let v533 : BitVec 32 := Scalar.addi c0_i32_404 v532
  v533.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_404 : BitVec 32 := 0#32
  let c19_i32_402 : BitVec 32 := 19#32
  let c1_i32_403 : BitVec 32 := 1#32
  let v532 : BitVec 32 := Scalar.muli c19_i32_402 c1_i32_403
  let v533 : BitVec 32 := Scalar.addi c0_i32_404 v532
  v533.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_404 : BitVec 32 := 0#32
  let c20_i32_402 : BitVec 32 := 20#32
  let c1_i32_403 : BitVec 32 := 1#32
  let v532 : BitVec 32 := Scalar.muli c20_i32_402 c1_i32_403
  let v533 : BitVec 32 := Scalar.addi c0_i32_404 v532
  v533.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_404 : BitVec 32 := 0#32
  let c21_i32_402 : BitVec 32 := 21#32
  let c1_i32_403 : BitVec 32 := 1#32
  let v532 : BitVec 32 := Scalar.muli c21_i32_402 c1_i32_403
  let v533 : BitVec 32 := Scalar.addi c0_i32_404 v532
  v533.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_404 : BitVec 32 := 0#32
  let c22_i32_402 : BitVec 32 := 22#32
  let c1_i32_403 : BitVec 32 := 1#32
  let v532 : BitVec 32 := Scalar.muli c22_i32_402 c1_i32_403
  let v533 : BitVec 32 := Scalar.addi c0_i32_404 v532
  v533.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_404 : BitVec 32 := 0#32
  let c23_i32_402 : BitVec 32 := 23#32
  let c1_i32_403 : BitVec 32 := 1#32
  let v532 : BitVec 32 := Scalar.muli c23_i32_402 c1_i32_403
  let v533 : BitVec 32 := Scalar.addi c0_i32_404 v532
  v533.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_404 : BitVec 32 := 0#32
  let c24_i32_402 : BitVec 32 := 24#32
  let c1_i32_403 : BitVec 32 := 1#32
  let v532 : BitVec 32 := Scalar.muli c24_i32_402 c1_i32_403
  let v533 : BitVec 32 := Scalar.addi c0_i32_404 v532
  v533.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_404 : BitVec 32 := 0#32
  let c25_i32_402 : BitVec 32 := 25#32
  let c1_i32_403 : BitVec 32 := 1#32
  let v532 : BitVec 32 := Scalar.muli c25_i32_402 c1_i32_403
  let v533 : BitVec 32 := Scalar.addi c0_i32_404 v532
  v533.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_404 : BitVec 32 := 0#32
  let c26_i32_402 : BitVec 32 := 26#32
  let c1_i32_403 : BitVec 32 := 1#32
  let v532 : BitVec 32 := Scalar.muli c26_i32_402 c1_i32_403
  let v533 : BitVec 32 := Scalar.addi c0_i32_404 v532
  v533.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_404 : BitVec 32 := 0#32
  let c27_i32_402 : BitVec 32 := 27#32
  let c1_i32_403 : BitVec 32 := 1#32
  let v532 : BitVec 32 := Scalar.muli c27_i32_402 c1_i32_403
  let v533 : BitVec 32 := Scalar.addi c0_i32_404 v532
  v533.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_404 : BitVec 32 := 0#32
  let c28_i32_402 : BitVec 32 := 28#32
  let c1_i32_403 : BitVec 32 := 1#32
  let v532 : BitVec 32 := Scalar.muli c28_i32_402 c1_i32_403
  let v533 : BitVec 32 := Scalar.addi c0_i32_404 v532
  v533.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_404 : BitVec 32 := 0#32
  let c29_i32_402 : BitVec 32 := 29#32
  let c1_i32_403 : BitVec 32 := 1#32
  let v532 : BitVec 32 := Scalar.muli c29_i32_402 c1_i32_403
  let v533 : BitVec 32 := Scalar.addi c0_i32_404 v532
  v533.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_404 : BitVec 32 := 0#32
  let c30_i32_402 : BitVec 32 := 30#32
  let c1_i32_403 : BitVec 32 := 1#32
  let v532 : BitVec 32 := Scalar.muli c30_i32_402 c1_i32_403
  let v533 : BitVec 32 := Scalar.addi c0_i32_404 v532
  v533.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_404 : BitVec 32 := 0#32
  let c31_i32_402 : BitVec 32 := 31#32
  let c1_i32_403 : BitVec 32 := 1#32
  let v532 : BitVec 32 := Scalar.muli c31_i32_402 c1_i32_403
  let v533 : BitVec 32 := Scalar.addi c0_i32_404 v532
  v533.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v132 : Index := Scalar.indexCast v2
  let c0_35 : Index := 0#32
  ![v132.toNat, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_36 : BitVec 32 := 0#32
  let v136 : BitVec 1 := Scalar.cmpi .ne v2 c0_i32_36
  let v137 : BitVec 32 := Scalar.extui v136
  let c0_i32_38 : BitVec 32 := 0#32
  let v138 : BitVec 1 := Scalar.cmpi .ne v137 c0_i32_38
  v138

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev33 : Nat :=
  let c0_i32_403 : BitVec 32 := 0#32
  let c0_i32_401 : BitVec 32 := 0#32
  let c1_i32_402 : BitVec 32 := 1#32
  let v532 : BitVec 32 := Scalar.muli c0_i32_401 c1_i32_402
  let v533 : BitVec 32 := Scalar.addi c0_i32_403 v532
  v533.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let v139 : BitVec 1 := Scalar.cmpi .ne v2 c1_i32_39
  let v140 : BitVec 32 := Scalar.extui v139
  let c0_i32_41 : BitVec 32 := 0#32
  let v141 : BitVec 1 := Scalar.cmpi .ne v140 c0_i32_41
  v141

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev34 : Nat :=
  let c0_i32_403 : BitVec 32 := 0#32
  let c1_i32_401 : BitVec 32 := 1#32
  let c1_i32_402 : BitVec 32 := 1#32
  let v532 : BitVec 32 := Scalar.muli c1_i32_401 c1_i32_402
  let v533 : BitVec 32 := Scalar.addi c0_i32_403 v532
  v533.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_42 : BitVec 32 := 2#32
  let v142 : BitVec 1 := Scalar.cmpi .ne v2 c2_i32_42
  let v143 : BitVec 32 := Scalar.extui v142
  let c0_i32_44 : BitVec 32 := 0#32
  let v144 : BitVec 1 := Scalar.cmpi .ne v143 c0_i32_44
  v144

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev35 : Nat :=
  let c0_i32_403 : BitVec 32 := 0#32
  let c2_i32_401 : BitVec 32 := 2#32
  let c1_i32_402 : BitVec 32 := 1#32
  let v532 : BitVec 32 := Scalar.muli c2_i32_401 c1_i32_402
  let v533 : BitVec 32 := Scalar.addi c0_i32_403 v532
  v533.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_45 : BitVec 32 := 3#32
  let v145 : BitVec 1 := Scalar.cmpi .ne v2 c3_i32_45
  let v146 : BitVec 32 := Scalar.extui v145
  let c0_i32_47 : BitVec 32 := 0#32
  let v147 : BitVec 1 := Scalar.cmpi .ne v146 c0_i32_47
  v147

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev36 : Nat :=
  let c0_i32_403 : BitVec 32 := 0#32
  let c3_i32_401 : BitVec 32 := 3#32
  let c1_i32_402 : BitVec 32 := 1#32
  let v532 : BitVec 32 := Scalar.muli c3_i32_401 c1_i32_402
  let v533 : BitVec 32 := Scalar.addi c0_i32_403 v532
  v533.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_48 : BitVec 32 := 4#32
  let v148 : BitVec 1 := Scalar.cmpi .ne v2 c4_i32_48
  let v149 : BitVec 32 := Scalar.extui v148
  let c0_i32_50 : BitVec 32 := 0#32
  let v150 : BitVec 1 := Scalar.cmpi .ne v149 c0_i32_50
  v150

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev37 : Nat :=
  let c0_i32_403 : BitVec 32 := 0#32
  let c4_i32_401 : BitVec 32 := 4#32
  let c1_i32_402 : BitVec 32 := 1#32
  let v532 : BitVec 32 := Scalar.muli c4_i32_401 c1_i32_402
  let v533 : BitVec 32 := Scalar.addi c0_i32_403 v532
  v533.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_51 : BitVec 32 := 5#32
  let v151 : BitVec 1 := Scalar.cmpi .ne v2 c5_i32_51
  let v152 : BitVec 32 := Scalar.extui v151
  let c0_i32_53 : BitVec 32 := 0#32
  let v153 : BitVec 1 := Scalar.cmpi .ne v152 c0_i32_53
  v153

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev38 : Nat :=
  let c0_i32_403 : BitVec 32 := 0#32
  let c5_i32_401 : BitVec 32 := 5#32
  let c1_i32_402 : BitVec 32 := 1#32
  let v532 : BitVec 32 := Scalar.muli c5_i32_401 c1_i32_402
  let v533 : BitVec 32 := Scalar.addi c0_i32_403 v532
  v533.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_54 : BitVec 32 := 6#32
  let v154 : BitVec 1 := Scalar.cmpi .ne v2 c6_i32_54
  let v155 : BitVec 32 := Scalar.extui v154
  let c0_i32_56 : BitVec 32 := 0#32
  let v156 : BitVec 1 := Scalar.cmpi .ne v155 c0_i32_56
  v156

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev39 : Nat :=
  let c0_i32_403 : BitVec 32 := 0#32
  let c6_i32_401 : BitVec 32 := 6#32
  let c1_i32_402 : BitVec 32 := 1#32
  let v532 : BitVec 32 := Scalar.muli c6_i32_401 c1_i32_402
  let v533 : BitVec 32 := Scalar.addi c0_i32_403 v532
  v533.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_57 : BitVec 32 := 7#32
  let v157 : BitVec 1 := Scalar.cmpi .ne v2 c7_i32_57
  let v158 : BitVec 32 := Scalar.extui v157
  let c0_i32_59 : BitVec 32 := 0#32
  let v159 : BitVec 1 := Scalar.cmpi .ne v158 c0_i32_59
  v159

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev40 : Nat :=
  let c0_i32_403 : BitVec 32 := 0#32
  let c7_i32_401 : BitVec 32 := 7#32
  let c1_i32_402 : BitVec 32 := 1#32
  let v532 : BitVec 32 := Scalar.muli c7_i32_401 c1_i32_402
  let v533 : BitVec 32 := Scalar.addi c0_i32_403 v532
  v533.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_60 : BitVec 32 := 8#32
  let v160 : BitVec 1 := Scalar.cmpi .ne v2 c8_i32_60
  let v161 : BitVec 32 := Scalar.extui v160
  let c0_i32_62 : BitVec 32 := 0#32
  let v162 : BitVec 1 := Scalar.cmpi .ne v161 c0_i32_62
  v162

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev41 : Nat :=
  let c0_i32_403 : BitVec 32 := 0#32
  let c8_i32_401 : BitVec 32 := 8#32
  let c1_i32_402 : BitVec 32 := 1#32
  let v532 : BitVec 32 := Scalar.muli c8_i32_401 c1_i32_402
  let v533 : BitVec 32 := Scalar.addi c0_i32_403 v532
  v533.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_63 : BitVec 32 := 9#32
  let v163 : BitVec 1 := Scalar.cmpi .ne v2 c9_i32_63
  let v164 : BitVec 32 := Scalar.extui v163
  let c0_i32_65 : BitVec 32 := 0#32
  let v165 : BitVec 1 := Scalar.cmpi .ne v164 c0_i32_65
  v165

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev42 : Nat :=
  let c0_i32_403 : BitVec 32 := 0#32
  let c9_i32_401 : BitVec 32 := 9#32
  let c1_i32_402 : BitVec 32 := 1#32
  let v532 : BitVec 32 := Scalar.muli c9_i32_401 c1_i32_402
  let v533 : BitVec 32 := Scalar.addi c0_i32_403 v532
  v533.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_66 : BitVec 32 := 10#32
  let v166 : BitVec 1 := Scalar.cmpi .ne v2 c10_i32_66
  let v167 : BitVec 32 := Scalar.extui v166
  let c0_i32_68 : BitVec 32 := 0#32
  let v168 : BitVec 1 := Scalar.cmpi .ne v167 c0_i32_68
  v168

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev43 : Nat :=
  let c0_i32_403 : BitVec 32 := 0#32
  let c10_i32_401 : BitVec 32 := 10#32
  let c1_i32_402 : BitVec 32 := 1#32
  let v532 : BitVec 32 := Scalar.muli c10_i32_401 c1_i32_402
  let v533 : BitVec 32 := Scalar.addi c0_i32_403 v532
  v533.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_69 : BitVec 32 := 11#32
  let v169 : BitVec 1 := Scalar.cmpi .ne v2 c11_i32_69
  let v170 : BitVec 32 := Scalar.extui v169
  let c0_i32_71 : BitVec 32 := 0#32
  let v171 : BitVec 1 := Scalar.cmpi .ne v170 c0_i32_71
  v171

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev44 : Nat :=
  let c0_i32_403 : BitVec 32 := 0#32
  let c11_i32_401 : BitVec 32 := 11#32
  let c1_i32_402 : BitVec 32 := 1#32
  let v532 : BitVec 32 := Scalar.muli c11_i32_401 c1_i32_402
  let v533 : BitVec 32 := Scalar.addi c0_i32_403 v532
  v533.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_72 : BitVec 32 := 12#32
  let v172 : BitVec 1 := Scalar.cmpi .ne v2 c12_i32_72
  let v173 : BitVec 32 := Scalar.extui v172
  let c0_i32_74 : BitVec 32 := 0#32
  let v174 : BitVec 1 := Scalar.cmpi .ne v173 c0_i32_74
  v174

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev45 : Nat :=
  let c0_i32_403 : BitVec 32 := 0#32
  let c12_i32_401 : BitVec 32 := 12#32
  let c1_i32_402 : BitVec 32 := 1#32
  let v532 : BitVec 32 := Scalar.muli c12_i32_401 c1_i32_402
  let v533 : BitVec 32 := Scalar.addi c0_i32_403 v532
  v533.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_75 : BitVec 32 := 13#32
  let v175 : BitVec 1 := Scalar.cmpi .ne v2 c13_i32_75
  let v176 : BitVec 32 := Scalar.extui v175
  let c0_i32_77 : BitVec 32 := 0#32
  let v177 : BitVec 1 := Scalar.cmpi .ne v176 c0_i32_77
  v177

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev46 : Nat :=
  let c0_i32_403 : BitVec 32 := 0#32
  let c13_i32_401 : BitVec 32 := 13#32
  let c1_i32_402 : BitVec 32 := 1#32
  let v532 : BitVec 32 := Scalar.muli c13_i32_401 c1_i32_402
  let v533 : BitVec 32 := Scalar.addi c0_i32_403 v532
  v533.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_78 : BitVec 32 := 14#32
  let v178 : BitVec 1 := Scalar.cmpi .ne v2 c14_i32_78
  let v179 : BitVec 32 := Scalar.extui v178
  let c0_i32_80 : BitVec 32 := 0#32
  let v180 : BitVec 1 := Scalar.cmpi .ne v179 c0_i32_80
  v180

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev47 : Nat :=
  let c0_i32_403 : BitVec 32 := 0#32
  let c14_i32_401 : BitVec 32 := 14#32
  let c1_i32_402 : BitVec 32 := 1#32
  let v532 : BitVec 32 := Scalar.muli c14_i32_401 c1_i32_402
  let v533 : BitVec 32 := Scalar.addi c0_i32_403 v532
  v533.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_81 : BitVec 32 := 15#32
  let v181 : BitVec 1 := Scalar.cmpi .ne v2 c15_i32_81
  let v182 : BitVec 32 := Scalar.extui v181
  let c0_i32_83 : BitVec 32 := 0#32
  let v183 : BitVec 1 := Scalar.cmpi .ne v182 c0_i32_83
  v183

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev48 : Nat :=
  let c0_i32_403 : BitVec 32 := 0#32
  let c15_i32_401 : BitVec 32 := 15#32
  let c1_i32_402 : BitVec 32 := 1#32
  let v532 : BitVec 32 := Scalar.muli c15_i32_401 c1_i32_402
  let v533 : BitVec 32 := Scalar.addi c0_i32_403 v532
  v533.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_84 : BitVec 32 := 16#32
  let v184 : BitVec 1 := Scalar.cmpi .ne v2 c16_i32_84
  let v185 : BitVec 32 := Scalar.extui v184
  let c0_i32_86 : BitVec 32 := 0#32
  let v186 : BitVec 1 := Scalar.cmpi .ne v185 c0_i32_86
  v186

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev49 : Nat :=
  let c0_i32_403 : BitVec 32 := 0#32
  let c16_i32_401 : BitVec 32 := 16#32
  let c1_i32_402 : BitVec 32 := 1#32
  let v532 : BitVec 32 := Scalar.muli c16_i32_401 c1_i32_402
  let v533 : BitVec 32 := Scalar.addi c0_i32_403 v532
  v533.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_87 : BitVec 32 := 17#32
  let v187 : BitVec 1 := Scalar.cmpi .ne v2 c17_i32_87
  let v188 : BitVec 32 := Scalar.extui v187
  let c0_i32_89 : BitVec 32 := 0#32
  let v189 : BitVec 1 := Scalar.cmpi .ne v188 c0_i32_89
  v189

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev50 : Nat :=
  let c0_i32_403 : BitVec 32 := 0#32
  let c17_i32_401 : BitVec 32 := 17#32
  let c1_i32_402 : BitVec 32 := 1#32
  let v532 : BitVec 32 := Scalar.muli c17_i32_401 c1_i32_402
  let v533 : BitVec 32 := Scalar.addi c0_i32_403 v532
  v533.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_90 : BitVec 32 := 18#32
  let v190 : BitVec 1 := Scalar.cmpi .ne v2 c18_i32_90
  let v191 : BitVec 32 := Scalar.extui v190
  let c0_i32_92 : BitVec 32 := 0#32
  let v192 : BitVec 1 := Scalar.cmpi .ne v191 c0_i32_92
  v192

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev51 : Nat :=
  let c0_i32_403 : BitVec 32 := 0#32
  let c18_i32_401 : BitVec 32 := 18#32
  let c1_i32_402 : BitVec 32 := 1#32
  let v532 : BitVec 32 := Scalar.muli c18_i32_401 c1_i32_402
  let v533 : BitVec 32 := Scalar.addi c0_i32_403 v532
  v533.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_93 : BitVec 32 := 19#32
  let v193 : BitVec 1 := Scalar.cmpi .ne v2 c19_i32_93
  let v194 : BitVec 32 := Scalar.extui v193
  let c0_i32_95 : BitVec 32 := 0#32
  let v195 : BitVec 1 := Scalar.cmpi .ne v194 c0_i32_95
  v195

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev52 : Nat :=
  let c0_i32_403 : BitVec 32 := 0#32
  let c19_i32_401 : BitVec 32 := 19#32
  let c1_i32_402 : BitVec 32 := 1#32
  let v532 : BitVec 32 := Scalar.muli c19_i32_401 c1_i32_402
  let v533 : BitVec 32 := Scalar.addi c0_i32_403 v532
  v533.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_96 : BitVec 32 := 20#32
  let v196 : BitVec 1 := Scalar.cmpi .ne v2 c20_i32_96
  let v197 : BitVec 32 := Scalar.extui v196
  let c0_i32_98 : BitVec 32 := 0#32
  let v198 : BitVec 1 := Scalar.cmpi .ne v197 c0_i32_98
  v198

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev53 : Nat :=
  let c0_i32_403 : BitVec 32 := 0#32
  let c20_i32_401 : BitVec 32 := 20#32
  let c1_i32_402 : BitVec 32 := 1#32
  let v532 : BitVec 32 := Scalar.muli c20_i32_401 c1_i32_402
  let v533 : BitVec 32 := Scalar.addi c0_i32_403 v532
  v533.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_99 : BitVec 32 := 21#32
  let v199 : BitVec 1 := Scalar.cmpi .ne v2 c21_i32_99
  let v200 : BitVec 32 := Scalar.extui v199
  let c0_i32_101 : BitVec 32 := 0#32
  let v201 : BitVec 1 := Scalar.cmpi .ne v200 c0_i32_101
  v201

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev54 : Nat :=
  let c0_i32_403 : BitVec 32 := 0#32
  let c21_i32_401 : BitVec 32 := 21#32
  let c1_i32_402 : BitVec 32 := 1#32
  let v532 : BitVec 32 := Scalar.muli c21_i32_401 c1_i32_402
  let v533 : BitVec 32 := Scalar.addi c0_i32_403 v532
  v533.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_102 : BitVec 32 := 22#32
  let v202 : BitVec 1 := Scalar.cmpi .ne v2 c22_i32_102
  let v203 : BitVec 32 := Scalar.extui v202
  let c0_i32_104 : BitVec 32 := 0#32
  let v204 : BitVec 1 := Scalar.cmpi .ne v203 c0_i32_104
  v204

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev55 : Nat :=
  let c0_i32_403 : BitVec 32 := 0#32
  let c22_i32_401 : BitVec 32 := 22#32
  let c1_i32_402 : BitVec 32 := 1#32
  let v532 : BitVec 32 := Scalar.muli c22_i32_401 c1_i32_402
  let v533 : BitVec 32 := Scalar.addi c0_i32_403 v532
  v533.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_105 : BitVec 32 := 23#32
  let v205 : BitVec 1 := Scalar.cmpi .ne v2 c23_i32_105
  let v206 : BitVec 32 := Scalar.extui v205
  let c0_i32_107 : BitVec 32 := 0#32
  let v207 : BitVec 1 := Scalar.cmpi .ne v206 c0_i32_107
  v207

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev56 : Nat :=
  let c0_i32_403 : BitVec 32 := 0#32
  let c23_i32_401 : BitVec 32 := 23#32
  let c1_i32_402 : BitVec 32 := 1#32
  let v532 : BitVec 32 := Scalar.muli c23_i32_401 c1_i32_402
  let v533 : BitVec 32 := Scalar.addi c0_i32_403 v532
  v533.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_108 : BitVec 32 := 24#32
  let v208 : BitVec 1 := Scalar.cmpi .ne v2 c24_i32_108
  let v209 : BitVec 32 := Scalar.extui v208
  let c0_i32_110 : BitVec 32 := 0#32
  let v210 : BitVec 1 := Scalar.cmpi .ne v209 c0_i32_110
  v210

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev57 : Nat :=
  let c0_i32_403 : BitVec 32 := 0#32
  let c24_i32_401 : BitVec 32 := 24#32
  let c1_i32_402 : BitVec 32 := 1#32
  let v532 : BitVec 32 := Scalar.muli c24_i32_401 c1_i32_402
  let v533 : BitVec 32 := Scalar.addi c0_i32_403 v532
  v533.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_111 : BitVec 32 := 25#32
  let v211 : BitVec 1 := Scalar.cmpi .ne v2 c25_i32_111
  let v212 : BitVec 32 := Scalar.extui v211
  let c0_i32_113 : BitVec 32 := 0#32
  let v213 : BitVec 1 := Scalar.cmpi .ne v212 c0_i32_113
  v213

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev58 : Nat :=
  let c0_i32_403 : BitVec 32 := 0#32
  let c25_i32_401 : BitVec 32 := 25#32
  let c1_i32_402 : BitVec 32 := 1#32
  let v532 : BitVec 32 := Scalar.muli c25_i32_401 c1_i32_402
  let v533 : BitVec 32 := Scalar.addi c0_i32_403 v532
  v533.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_114 : BitVec 32 := 26#32
  let v214 : BitVec 1 := Scalar.cmpi .ne v2 c26_i32_114
  let v215 : BitVec 32 := Scalar.extui v214
  let c0_i32_116 : BitVec 32 := 0#32
  let v216 : BitVec 1 := Scalar.cmpi .ne v215 c0_i32_116
  v216

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev59 : Nat :=
  let c0_i32_403 : BitVec 32 := 0#32
  let c26_i32_401 : BitVec 32 := 26#32
  let c1_i32_402 : BitVec 32 := 1#32
  let v532 : BitVec 32 := Scalar.muli c26_i32_401 c1_i32_402
  let v533 : BitVec 32 := Scalar.addi c0_i32_403 v532
  v533.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_117 : BitVec 32 := 27#32
  let v217 : BitVec 1 := Scalar.cmpi .ne v2 c27_i32_117
  let v218 : BitVec 32 := Scalar.extui v217
  let c0_i32_119 : BitVec 32 := 0#32
  let v219 : BitVec 1 := Scalar.cmpi .ne v218 c0_i32_119
  v219

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev60 : Nat :=
  let c0_i32_403 : BitVec 32 := 0#32
  let c27_i32_401 : BitVec 32 := 27#32
  let c1_i32_402 : BitVec 32 := 1#32
  let v532 : BitVec 32 := Scalar.muli c27_i32_401 c1_i32_402
  let v533 : BitVec 32 := Scalar.addi c0_i32_403 v532
  v533.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_120 : BitVec 32 := 28#32
  let v220 : BitVec 1 := Scalar.cmpi .ne v2 c28_i32_120
  let v221 : BitVec 32 := Scalar.extui v220
  let c0_i32_122 : BitVec 32 := 0#32
  let v222 : BitVec 1 := Scalar.cmpi .ne v221 c0_i32_122
  v222

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev61 : Nat :=
  let c0_i32_403 : BitVec 32 := 0#32
  let c28_i32_401 : BitVec 32 := 28#32
  let c1_i32_402 : BitVec 32 := 1#32
  let v532 : BitVec 32 := Scalar.muli c28_i32_401 c1_i32_402
  let v533 : BitVec 32 := Scalar.addi c0_i32_403 v532
  v533.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_123 : BitVec 32 := 29#32
  let v223 : BitVec 1 := Scalar.cmpi .ne v2 c29_i32_123
  let v224 : BitVec 32 := Scalar.extui v223
  let c0_i32_125 : BitVec 32 := 0#32
  let v225 : BitVec 1 := Scalar.cmpi .ne v224 c0_i32_125
  v225

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev62 : Nat :=
  let c0_i32_403 : BitVec 32 := 0#32
  let c29_i32_401 : BitVec 32 := 29#32
  let c1_i32_402 : BitVec 32 := 1#32
  let v532 : BitVec 32 := Scalar.muli c29_i32_401 c1_i32_402
  let v533 : BitVec 32 := Scalar.addi c0_i32_403 v532
  v533.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_126 : BitVec 32 := 30#32
  let v226 : BitVec 1 := Scalar.cmpi .ne v2 c30_i32_126
  let v227 : BitVec 32 := Scalar.extui v226
  let c0_i32_128 : BitVec 32 := 0#32
  let v228 : BitVec 1 := Scalar.cmpi .ne v227 c0_i32_128
  v228

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev63 : Nat :=
  let c0_i32_403 : BitVec 32 := 0#32
  let c30_i32_401 : BitVec 32 := 30#32
  let c1_i32_402 : BitVec 32 := 1#32
  let v532 : BitVec 32 := Scalar.muli c30_i32_401 c1_i32_402
  let v533 : BitVec 32 := Scalar.addi c0_i32_403 v532
  v533.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_129 : BitVec 32 := 31#32
  let v229 : BitVec 1 := Scalar.cmpi .ne v2 c31_i32_129
  let v230 : BitVec 32 := Scalar.extui v229
  let c0_i32_131 : BitVec 32 := 0#32
  let v231 : BitVec 1 := Scalar.cmpi .ne v230 c0_i32_131
  v231

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  ![v2.toNat, 0]
def k0_dev64 : Nat :=
  let c0_i32_403 : BitVec 32 := 0#32
  let c31_i32_401 : BitVec 32 := 31#32
  let c1_i32_402 : BitVec 32 := 1#32
  let v532 : BitVec 32 := Scalar.muli c31_i32_401 c1_i32_402
  let v533 : BitVec 32 := Scalar.addi c0_i32_403 v532
  v533.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_141 : BitVec 32 := 0#32
  let v272 : BitVec 1 := Scalar.cmpi .ne v2 c0_i32_141
  let v273 : BitVec 32 := Scalar.extui v272
  let c0_i32_145 : BitVec 32 := 0#32
  let v274 : BitVec 1 := Scalar.cmpi .ne v273 c0_i32_145
  v274

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v275 : BitVec 1 := Scalar.cmpi .ne v2 c1_i32_146
  let v276 : BitVec 32 := Scalar.extui v275
  let c0_i32_150 : BitVec 32 := 0#32
  let v277 : BitVec 1 := Scalar.cmpi .ne v276 c0_i32_150
  v277

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_151 : BitVec 32 := 2#32
  let v278 : BitVec 1 := Scalar.cmpi .ne v2 c2_i32_151
  let v279 : BitVec 32 := Scalar.extui v278
  let c0_i32_155 : BitVec 32 := 0#32
  let v280 : BitVec 1 := Scalar.cmpi .ne v279 c0_i32_155
  v280

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_156 : BitVec 32 := 3#32
  let v281 : BitVec 1 := Scalar.cmpi .ne v2 c3_i32_156
  let v282 : BitVec 32 := Scalar.extui v281
  let c0_i32_160 : BitVec 32 := 0#32
  let v283 : BitVec 1 := Scalar.cmpi .ne v282 c0_i32_160
  v283

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v284 : BitVec 1 := Scalar.cmpi .ne v2 c4_i32_161
  let v285 : BitVec 32 := Scalar.extui v284
  let c0_i32_165 : BitVec 32 := 0#32
  let v286 : BitVec 1 := Scalar.cmpi .ne v285 c0_i32_165
  v286

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_166 : BitVec 32 := 5#32
  let v287 : BitVec 1 := Scalar.cmpi .ne v2 c5_i32_166
  let v288 : BitVec 32 := Scalar.extui v287
  let c0_i32_170 : BitVec 32 := 0#32
  let v289 : BitVec 1 := Scalar.cmpi .ne v288 c0_i32_170
  v289

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_171 : BitVec 32 := 6#32
  let v290 : BitVec 1 := Scalar.cmpi .ne v2 c6_i32_171
  let v291 : BitVec 32 := Scalar.extui v290
  let c0_i32_175 : BitVec 32 := 0#32
  let v292 : BitVec 1 := Scalar.cmpi .ne v291 c0_i32_175
  v292

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_176 : BitVec 32 := 7#32
  let v293 : BitVec 1 := Scalar.cmpi .ne v2 c7_i32_176
  let v294 : BitVec 32 := Scalar.extui v293
  let c0_i32_180 : BitVec 32 := 0#32
  let v295 : BitVec 1 := Scalar.cmpi .ne v294 c0_i32_180
  v295

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_181 : BitVec 32 := 8#32
  let v296 : BitVec 1 := Scalar.cmpi .ne v2 c8_i32_181
  let v297 : BitVec 32 := Scalar.extui v296
  let c0_i32_185 : BitVec 32 := 0#32
  let v298 : BitVec 1 := Scalar.cmpi .ne v297 c0_i32_185
  v298

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_186 : BitVec 32 := 9#32
  let v299 : BitVec 1 := Scalar.cmpi .ne v2 c9_i32_186
  let v300 : BitVec 32 := Scalar.extui v299
  let c0_i32_190 : BitVec 32 := 0#32
  let v301 : BitVec 1 := Scalar.cmpi .ne v300 c0_i32_190
  v301

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_191 : BitVec 32 := 10#32
  let v302 : BitVec 1 := Scalar.cmpi .ne v2 c10_i32_191
  let v303 : BitVec 32 := Scalar.extui v302
  let c0_i32_195 : BitVec 32 := 0#32
  let v304 : BitVec 1 := Scalar.cmpi .ne v303 c0_i32_195
  v304

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_196 : BitVec 32 := 11#32
  let v305 : BitVec 1 := Scalar.cmpi .ne v2 c11_i32_196
  let v306 : BitVec 32 := Scalar.extui v305
  let c0_i32_200 : BitVec 32 := 0#32
  let v307 : BitVec 1 := Scalar.cmpi .ne v306 c0_i32_200
  v307

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_201 : BitVec 32 := 12#32
  let v308 : BitVec 1 := Scalar.cmpi .ne v2 c12_i32_201
  let v309 : BitVec 32 := Scalar.extui v308
  let c0_i32_205 : BitVec 32 := 0#32
  let v310 : BitVec 1 := Scalar.cmpi .ne v309 c0_i32_205
  v310

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_206 : BitVec 32 := 13#32
  let v311 : BitVec 1 := Scalar.cmpi .ne v2 c13_i32_206
  let v312 : BitVec 32 := Scalar.extui v311
  let c0_i32_210 : BitVec 32 := 0#32
  let v313 : BitVec 1 := Scalar.cmpi .ne v312 c0_i32_210
  v313

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_211 : BitVec 32 := 14#32
  let v314 : BitVec 1 := Scalar.cmpi .ne v2 c14_i32_211
  let v315 : BitVec 32 := Scalar.extui v314
  let c0_i32_215 : BitVec 32 := 0#32
  let v316 : BitVec 1 := Scalar.cmpi .ne v315 c0_i32_215
  v316

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_216 : BitVec 32 := 15#32
  let v317 : BitVec 1 := Scalar.cmpi .ne v2 c15_i32_216
  let v318 : BitVec 32 := Scalar.extui v317
  let c0_i32_220 : BitVec 32 := 0#32
  let v319 : BitVec 1 := Scalar.cmpi .ne v318 c0_i32_220
  v319

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_221 : BitVec 32 := 16#32
  let v320 : BitVec 1 := Scalar.cmpi .ne v2 c16_i32_221
  let v321 : BitVec 32 := Scalar.extui v320
  let c0_i32_225 : BitVec 32 := 0#32
  let v322 : BitVec 1 := Scalar.cmpi .ne v321 c0_i32_225
  v322

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_226 : BitVec 32 := 17#32
  let v323 : BitVec 1 := Scalar.cmpi .ne v2 c17_i32_226
  let v324 : BitVec 32 := Scalar.extui v323
  let c0_i32_230 : BitVec 32 := 0#32
  let v325 : BitVec 1 := Scalar.cmpi .ne v324 c0_i32_230
  v325

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_231 : BitVec 32 := 18#32
  let v326 : BitVec 1 := Scalar.cmpi .ne v2 c18_i32_231
  let v327 : BitVec 32 := Scalar.extui v326
  let c0_i32_235 : BitVec 32 := 0#32
  let v328 : BitVec 1 := Scalar.cmpi .ne v327 c0_i32_235
  v328

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_236 : BitVec 32 := 19#32
  let v329 : BitVec 1 := Scalar.cmpi .ne v2 c19_i32_236
  let v330 : BitVec 32 := Scalar.extui v329
  let c0_i32_240 : BitVec 32 := 0#32
  let v331 : BitVec 1 := Scalar.cmpi .ne v330 c0_i32_240
  v331

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_241 : BitVec 32 := 20#32
  let v332 : BitVec 1 := Scalar.cmpi .ne v2 c20_i32_241
  let v333 : BitVec 32 := Scalar.extui v332
  let c0_i32_245 : BitVec 32 := 0#32
  let v334 : BitVec 1 := Scalar.cmpi .ne v333 c0_i32_245
  v334

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_246 : BitVec 32 := 21#32
  let v335 : BitVec 1 := Scalar.cmpi .ne v2 c21_i32_246
  let v336 : BitVec 32 := Scalar.extui v335
  let c0_i32_250 : BitVec 32 := 0#32
  let v337 : BitVec 1 := Scalar.cmpi .ne v336 c0_i32_250
  v337

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_251 : BitVec 32 := 22#32
  let v338 : BitVec 1 := Scalar.cmpi .ne v2 c22_i32_251
  let v339 : BitVec 32 := Scalar.extui v338
  let c0_i32_255 : BitVec 32 := 0#32
  let v340 : BitVec 1 := Scalar.cmpi .ne v339 c0_i32_255
  v340

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_256 : BitVec 32 := 23#32
  let v341 : BitVec 1 := Scalar.cmpi .ne v2 c23_i32_256
  let v342 : BitVec 32 := Scalar.extui v341
  let c0_i32_260 : BitVec 32 := 0#32
  let v343 : BitVec 1 := Scalar.cmpi .ne v342 c0_i32_260
  v343

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_261 : BitVec 32 := 24#32
  let v344 : BitVec 1 := Scalar.cmpi .ne v2 c24_i32_261
  let v345 : BitVec 32 := Scalar.extui v344
  let c0_i32_265 : BitVec 32 := 0#32
  let v346 : BitVec 1 := Scalar.cmpi .ne v345 c0_i32_265
  v346

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_266 : BitVec 32 := 25#32
  let v347 : BitVec 1 := Scalar.cmpi .ne v2 c25_i32_266
  let v348 : BitVec 32 := Scalar.extui v347
  let c0_i32_270 : BitVec 32 := 0#32
  let v349 : BitVec 1 := Scalar.cmpi .ne v348 c0_i32_270
  v349

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_271 : BitVec 32 := 26#32
  let v350 : BitVec 1 := Scalar.cmpi .ne v2 c26_i32_271
  let v351 : BitVec 32 := Scalar.extui v350
  let c0_i32_275 : BitVec 32 := 0#32
  let v352 : BitVec 1 := Scalar.cmpi .ne v351 c0_i32_275
  v352

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_276 : BitVec 32 := 27#32
  let v353 : BitVec 1 := Scalar.cmpi .ne v2 c27_i32_276
  let v354 : BitVec 32 := Scalar.extui v353
  let c0_i32_280 : BitVec 32 := 0#32
  let v355 : BitVec 1 := Scalar.cmpi .ne v354 c0_i32_280
  v355

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_281 : BitVec 32 := 28#32
  let v356 : BitVec 1 := Scalar.cmpi .ne v2 c28_i32_281
  let v357 : BitVec 32 := Scalar.extui v356
  let c0_i32_285 : BitVec 32 := 0#32
  let v358 : BitVec 1 := Scalar.cmpi .ne v357 c0_i32_285
  v358

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_286 : BitVec 32 := 29#32
  let v359 : BitVec 1 := Scalar.cmpi .ne v2 c29_i32_286
  let v360 : BitVec 32 := Scalar.extui v359
  let c0_i32_290 : BitVec 32 := 0#32
  let v361 : BitVec 1 := Scalar.cmpi .ne v360 c0_i32_290
  v361

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_291 : BitVec 32 := 30#32
  let v362 : BitVec 1 := Scalar.cmpi .ne v2 c30_i32_291
  let v363 : BitVec 32 := Scalar.extui v362
  let c0_i32_295 : BitVec 32 := 0#32
  let v364 : BitVec 1 := Scalar.cmpi .ne v363 c0_i32_295
  v364

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_296 : BitVec 32 := 31#32
  let v365 : BitVec 1 := Scalar.cmpi .ne v2 c31_i32_296
  let v366 : BitVec 32 := Scalar.extui v365
  let c0_i32_300 : BitVec 32 := 0#32
  let v367 : BitVec 1 := Scalar.cmpi .ne v366 c0_i32_300
  v367

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_410 : BitVec 32 := 0#32
  ![v2.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S32768x512, .f32⟩
  | .hbm, ⟨5, _⟩ => ⟨S_, .i32⟩
  | .hbm, ⟨6, _⟩ => ⟨S32768x512, .f32⟩
  | .hbm, ⟨7, _⟩ => ⟨S_, .i32⟩
  | .hbm, ⟨8, _⟩ => ⟨S512, .f32⟩
  | .hbm, ⟨9, _⟩ => ⟨S32768x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S32768x512, .f32⟩
  | .hbm, ⟨19, _⟩ => ⟨S_, .i32⟩
  | .hbm, ⟨20, _⟩ => ⟨S_, .i32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 32768#32, 1#32⟩
-- ==== Proof.Protocol.lean ====
/-
# The protocol of the prefix-product kernel

Every device first tells every other one that it has entered (a unit on the other's barrier semaphore), waits for the
31 units of the others, multiplies its block up into one row, and sends that row into row `c` of every other device's
table. Then it waits for the 31 rows of the others and for its own 31 transfers.

One round per semaphore cell, duties named by devices:

* barrier cell of `c`: a duty for every other device `d`, of one unit, paid by `d`'s signal. What it hands over is row `c`
  of `d`'s table, at any contents: the place `c`'s transfer to `d` writes;
* receive cell `j` of `c`: the one duty `j`, of a row's credit, paid by `j`'s transfer. It hands over row `j` of `c`'s
  table holding `j`'s product;
* send cell `j` of `c`: the one duty `j`, of a row's credit, paid when `c`'s transfer to `j` has read its source. It hands
  back the share of `c`'s own row lent to that transfer.

The cells at `j = c` are not used: they have no duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.ValueIdxCore
public import Idealize.ShloMosaic.Lib.Tactic

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resource algebra: the pipeline library's copy and the protocol's, duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and the cells -/

abbrev xM : Memref sig .tc .vmem S1024x512 .f32 := Memref.whole cc0_stg0_0
abbrev oM : Memref sig .tc .vmem S1024x512 .f32 := Memref.whole cc0_stg1_0
abbrev rM : Memref sig .tc .vmem S32x512 .f32 := Memref.whole cc0_scratch0

/-- Row `j` of a device's table lies inside it. -/
theorem row_inb (j : Dev nD) : ∀ a, (![j.val, 0] : Fin 2 → Nat) a + S1x512.size a ≤ S32x512.size a := by
  revert j; decide

/-- Row `j` of a device's table, as the rectangle loads and stores go through, -/
abbrev rowR (j : Dev nD) : Rect S32x512 := Rect.unit (s := S32x512) ![j.val, 0] S1x512.size (row_inb j)
/-- and as the memref transfers go through. -/
abbrev rowM (j : Dev nD) : Memref sig .tc .vmem S1x512 .f32 := rM.slice (rowR j) (fun _ => rfl)

/-- The runtime's barrier semaphore, -/
abbrev barS : Sem sig := (SemArray.scalar (sig.barrier 0 rfl) : Sems sig S_).sem
/-- the `k`-th of the kernel's own 64 DMA semaphores, -/
abbrev ownQ (k : Fin 64) : DmaSem sig := ⟨2 + k.val, by have := k.isLt; show 2 + k.val < 66; omega⟩
/-- of which the first 32 are the send semaphores -/
abbrev sendK (j : Dev nD) : Fin 64 := ⟨j.val, by have : j.val < 32 := j.isLt; omega⟩
/-- and the last 32 the receive semaphores. -/
abbrev recvK (j : Dev nD) : Fin 64 := ⟨32 + j.val, by have : j.val < 32 := j.isLt; omega⟩
abbrev sendQ (j : Dev nD) : DmaSem sig := ownQ (sendK j)
abbrev recvQ (j : Dev nD) : DmaSem sig := ownQ (recvK j)

abbrev barCell (c : Dev nD) : GSem nD τ sig := ((c : Thread nD τ), .reg barS)
abbrev sendCell (c j : Dev nD) : GSem nD τ sig := ((c : Thread nD τ), .dma (sendQ j))
abbrev recvCell (c j : Dev nD) : GSem nD τ sig := ((c : Thread nD τ), .dma (recvQ j))

/-- The kernel's own (scoped) semaphores; -/
abbrev osem : Fin 64 → SemLoc sig := fun k => .dma (ownQ k)
/-- all of the protocol's: the barrier semaphore and those. -/
abbrev csem : Option (Fin 64) → SemLoc sig := fun | none => .reg barS | some k => .dma (ownQ k)
abbrev kcell (ck : Dev nD × Option (Fin 64)) : GSem nD τ sig := ((ck.1 : Thread nD τ), csem ck.2)

theorem sem_inb (j : Dev nD) : ∀ a, (![j.val] : Fin 1 → Nat) a + S1.size a ≤ S32.size a := by revert j; decide

/-- The program's `j`-th send semaphore is `sendQ j`, -/
theorem send_sem : ∀ j : Dev nD,
    ((cc0_scratch1.slice (Rect.unit (s := S32) ![j.val] S1.size (sem_inb j))).squeeze S_ squeezes_S1_S_).sem = sendQ j := by
  decide +kernel
/-- and its `j`-th receive semaphore `recvQ j`. -/
theorem recv_sem : ∀ j : Dev nD,
    ((cc0_scratch2.slice (Rect.unit (s := S32) ![j.val] S1.size (sem_inb j))).squeeze S_ squeezes_S1_S_).sem = recvQ j := by
  decide +kernel

/-- The same at any spelling of the offset. -/
theorem send_sem_of {j : Dev nD} {o : Fin 1 → ℕ} (ho : o = ![j.val]) (p : ∀ a, o a + S1.size a ≤ S32.size a) :
    ((cc0_scratch1.slice (Rect.unit (s := S32) o S1.size p)).squeeze S_ squeezes_S1_S_).sem = sendQ j := by
  subst ho; exact send_sem j
theorem recv_sem_of {j : Dev nD} {o : Fin 1 → ℕ} (ho : o = ![j.val]) (p : ∀ a, o a + S1.size a ≤ S32.size a) :
    ((cc0_scratch2.slice (Rect.unit (s := S32) o S1.size p)).squeeze S_ squeezes_S1_S_).sem = recvQ j := by
  subst ho; exact recv_sem j

/-- What a transfer of one row credits. -/
abbrev N : ℕ := (rowM (0 : Fin 32)).view.dmaCredit
theorem row_credit (j : Dev nD) : (rowM j).view.dmaCredit = N := rfl
theorem N_pos : 0 < N := View.dmaCredit_pos _ (by decide)

/-! ## Contents -/

/-- Device `c`'s block of `x` as the kernel finds it. -/
def xstg (c : Dev nD) : (cc0_stg0_0 : Ref sig .tc).ty.Contents (Elt F) :=
  (win0_0.blk (0 : Fin 1)).view.read (Elt F) ((s₀ m ρ).mem ((c : Thread nD τ).loc main_arg0))

/-- The product of the rows of device `j`'s block. -/
def rowVal (j : Dev nD) : S1x512.Idx → Elt F .f32 := k0_pay4 (k0_pay3 (xstg m ρ j))

/-- The table after the exchange, the same on every device: row `j` is device `j`'s product. -/
def commBuf : (cc0_scratch0 : Ref sig .tc).ty.Contents (Elt F) :=
  fun i => rowVal m ρ (i 0) (ix2 (0 : Fin 1) (i 1))

/-- The elements of row `j`. -/
abbrev rowSet (j : Dev nD) : Finset (cc0_scratch0 : Ref sig .tc).ty.shape.Idx := (rowM j).view.set

theorem rowSet_eq (j : Dev nD) : rowSet j = (rowR j).set := View.set_slice_whole _ _

theorem mem_rowSet (j : Dev nD) (i : S32x512.Idx) : i ∈ rowSet j ↔ i 0 = j := by
  rw [rowSet_eq, Rect.mem_set_unit, Fin.forall_fin_two]
  have h1 : (i 1).val < 512 := (i 1).isLt
  constructor
  · rintro ⟨⟨h, h'⟩, -⟩
    exact Fin.ext (by simp at h h'; omega)
  · rintro rfl
    exact ⟨⟨le_refl _, Nat.lt_succ_self _⟩, Nat.zero_le _, by simpa using h1⟩

theorem rowSet_disjoint (j j' : Dev nD) (h : j ≠ j') : Disjoint (rowSet j) (rowSet j') :=
  Finset.disjoint_left.mpr fun i hi hi' => h (((mem_rowSet j i).mp hi).symm.trans ((mem_rowSet j' i).mp hi'))

theorem rowSet_cover : (Finset.univ : Finset (Dev nD)).biUnion rowSet = Finset.univ :=
  Finset.eq_univ_iff_forall.mpr fun i => Finset.mem_biUnion.mpr ⟨i 0, Finset.mem_univ _, (mem_rowSet _ i).mpr rfl⟩

/-- Row `j` of the final table reads as `j`'s product. -/
theorem read_row (j : Dev nD) : (rowM j).view.read (Elt F) (commBuf m ρ) = rowVal m ρ j := by
  funext x
  show rowVal m ρ ((rowR j).emb x 0) (ix2 (0 : Fin 1) ((rowR j).emb x 1)) = rowVal m ρ j x
  have h0 : (rowR j).emb x 0 = j := by
    refine Fin.ext ?_
    have : (x 0).val < 1 := (x 0).isLt
    show j.val + 1 * (x 0).val = j.val
    omega
  have hx : (ix2 (0 : Fin 1) ((rowR j).emb x 1) : S1x512.Idx) = x := by
    funext a
    match a with
    | ⟨0, _⟩ => exact Fin.ext (by have : (x 0).val < 1 := (x 0).isLt; show 0 = (x 0).val; omega)
    | ⟨1, _⟩ => exact Fin.ext (by show 0 + 1 * (x 1).val = (x 1).val; omega)
  rw [h0, hx]

/-- Whatever a row held, writing `j`'s product into row `j` makes it the final table's row. -/
theorem write_row (j : Dev nD) (f : (cc0_scratch0 : Ref sig .tc).ty.Contents (Elt F)) :
    ∀ i ∈ rowSet j, (rowM j).view.write (Elt F) f (rowVal m ρ j) Finset.univ i = commBuf m ρ i := by
  intro i hi
  rw [← read_row m ρ j, View.write_read_eq_piecewise]
  exact Finset.piecewise_eq_of_mem _ _ _ hi

/-! ## Points-to's of rows -/

/-- Row `j` of device `c`'s table, at share `q` and contents `f`. -/
def rowPts (c j : Dev nD) (q : PosShare TreeShare) (f : (cc0_scratch0 : Ref sig .tc).ty.Contents (Elt F)) : sProp 𝕄 :=
  (rowM j).view.loc (c : Thread nD τ) ↦[(rowM j).view.set]{q} f

instance rowPts_storable (c j : Dev nD) (q) (f) : BI.Storable (upEmb : UEmb _ 𝕄) (rowPts (F := F) c j q f) := by
  unfold rowPts; infer_instance

theorem rowPts_congr (c j : Dev nD) (q) (f g) (h : ∀ i ∈ rowSet j, f i = g i) :
    (rowPts c j q f : sProp 𝕄) = rowPts c j q g := by
  unfold rowPts; exact pointsTo_congr h

/-- The whole table is its rows. -/
theorem table_rows (c : Dev nD) (f) :
    (((c : Thread nD τ).loc cc0_scratch0) ↦{fullShare} f : sProp 𝕄) = bigSep Finset.univ fun j : Dev nD => rowPts c j fullShare f := by
  have h := pointsTo_biUnion (Ix := Unit) (Name := ℕ) (U := UU) (Lvl := ℕ) (ℓ := (c : Thread nD τ).loc cc0_scratch0) (q := fullShare) (f := f) Finset.univ rowSet
    fun j _ j' _ h => rowSet_disjoint j j' h
  rw [rowSet_cover] at h
  unfold rowPts
  exact h

/-- The `j`-th of the 32 shares of a device's own row. -/
def leafAt (j : Dev nD) : PosShare TreeShare := ShareLeaves.leaf 5 fullShare ⟨j.val, j.isLt⟩

/-- The devices number the 32 shares. -/
def leafIx : Dev nD ≃ Fin (2 ^ 5) := ⟨fun j => ⟨j.val, j.isLt⟩, fun i => ⟨i.val, i.isLt⟩, fun _ => rfl, fun _ => rfl⟩

/-- Any elements of a buffer are their 32 shares. -/
theorem pts_leaves {ℓ : Loc nD τ sig} (I : Finset (Idx ℓ)) (f : Buf (Elt F) ℓ) :
    (ℓ ↦[I]{fullShare} f : sProp 𝕄) = bigSep Finset.univ fun d : Dev nD => ℓ ↦[I]{leafAt d} f :=
  (ShareLeaves.pointsTo_leaves I f 5 fullShare).trans (bigSep_univ_equiv leafIx _)

/-- A row is its 32 shares. -/
theorem row_leaves (c j : Dev nD) (f) :
    (rowPts c j fullShare f : sProp 𝕄) = bigSep Finset.univ fun d : Dev nD => rowPts c j (leafAt d) f := by
  unfold rowPts
  exact pts_leaves _ _

/-! ## The schedule -/

/-- What device `d`'s signal hands `c`: row `c` of `d`'s table. -/
def barPay (c d : Dev nD) : sProp 𝕄 := iprop(∃ f, rowPts d c fullShare f)
/-- What `j`'s transfer to `c` delivers: row `j` of `c`'s table, holding `j`'s product. -/
def recvPay (c j : Dev nD) : sProp 𝕄 := rowPts c j fullShare (commBuf m ρ)
/-- What `c`'s transfer to `j` gives back: the share of `c`'s own row lent to it. -/
def sendPay (c j : Dev nD) : sProp 𝕄 := rowPts c c (leafAt j) (commBuf m ρ)

/-- The device a cell of the kernel's own 64 semaphores is for. -/
def peer (q : DmaSem sig) : Dev nD := ⟨(q.val - 2) % 32, Nat.mod_lt _ (by decide)⟩

theorem peer_send (j : Dev nD) : peer (sendQ j) = j := by revert j; decide
theorem peer_recv (j : Dev nD) : peer (recvQ j) = j := by revert j; decide

/-- The one round. -/
def prefixRd : Rounds.Schedule (GSem nD τ sig) (Dev nD) 𝕄 where
  duties g r := if r = 0 ∧ g.1.2 = .tc then
      (match g.2 with
        | .reg _ => Finset.univ.erase g.1.1
        | .dma q => if 2 ≤ q.val then ({peer q} : Finset (Dev nD)).erase g.1.1 else ∅)
    else ∅
  unitless _ := False
  amount g _ _ := match g.2 with | .reg _ => 1 | .dma _ => N
  payload g _ d := match g.2 with
    | .reg _ => barPay g.1.1 d
    | .dma q => if q.val < 34 then sendPay m ρ g.1.1 d else recvPay m ρ g.1.1 d
  amount_pos g _ _ _ := by
    rcases g with ⟨t, s | q⟩
    · exact Nat.one_pos
    · exact N_pos

instance prefixRd_payload_storable (g : GSem nD τ sig) (r : ℕ) (d : Dev nD) :
    BI.Storable (upEmb : UEmb _ 𝕄) ((prefixRd (F := F) m ρ).payload g r d) := by
  rcases g with ⟨t, s | q⟩
  · show BI.Storable upEmb (barPay t.1 d)
    unfold barPay; infer_instance
  · show BI.Storable upEmb (if q.val < 34 then sendPay m ρ t.1 d else recvPay m ρ t.1 d)
    unfold sendPay recvPay; split <;> infer_instance

theorem duties_bar (c : Dev nD) : (prefixRd (F := F) m ρ).duties (barCell c) 0 = Finset.univ.erase c := by
  dsimp only [prefixRd]; exact if_pos ⟨rfl, rfl⟩
theorem duties_own (c : Dev nD) (k : Fin 64) :
    (prefixRd (F := F) m ρ).duties ((c : Thread nD τ), .dma (ownQ k)) 0 = ({peer (ownQ k)} : Finset (Dev nD)).erase c := by
  dsimp only [prefixRd]; rw [if_pos ⟨rfl, rfl⟩, if_pos (Nat.le_add_right 2 k.val)]
theorem duties_send (c j : Dev nD) : (prefixRd (F := F) m ρ).duties (sendCell c j) 0 = ({j} : Finset (Dev nD)).erase c := by
  rw [duties_own, peer_send]
theorem duties_recv (c j : Dev nD) : (prefixRd (F := F) m ρ).duties (recvCell c j) 0 = ({j} : Finset (Dev nD)).erase c := by
  rw [duties_own, peer_recv]
theorem duties_later (g : GSem nD τ sig) : ∀ r, 1 ≤ r → (prefixRd (F := F) m ρ).duties g r = ∅ :=
  fun r hr => by dsimp only [prefixRd]; exact if_neg fun h => by omega

theorem amount_bar (c d : Dev nD) : (prefixRd (F := F) m ρ).amount (barCell c) 0 d = 1 := rfl
theorem amount_own (c : Dev nD) (k : Fin 64) (d : Dev nD) : (prefixRd (F := F) m ρ).amount ((c : Thread nD τ), .dma (ownQ k)) 0 d = N := rfl
theorem payload_bar (c d : Dev nD) : (prefixRd (F := F) m ρ).payload (barCell c) 0 d = barPay c d := rfl

theorem erase_single {c j : Dev nD} (h : j ≠ c) : ({j} : Finset (Dev nD)).erase c = {j} :=
  Finset.erase_eq_of_notMem fun h' => h (Finset.mem_singleton.mp h').symm

theorem expect_bar (c : Dev nD) : (prefixRd (F := F) m ρ).expect (barCell c) 0 = 31 := by
  unfold Schedule.expect Schedule.amountOf
  rw [duties_bar, Finset.sum_congr rfl fun d _ => show (prefixRd (F := F) m ρ).amount (barCell c) 0 d = 1 from rfl,
    Finset.sum_const, Finset.card_erase_of_mem (Finset.mem_univ _), Finset.card_univ, Fintype.card_fin]
  rfl
theorem expect_send {c j : Dev nD} (h : j ≠ c) : (prefixRd (F := F) m ρ).expect (sendCell c j) 0 = N := by
  unfold Schedule.expect Schedule.amountOf; rw [duties_send, erase_single h, Finset.sum_singleton]; rfl
theorem expect_recv {c j : Dev nD} (h : j ≠ c) : (prefixRd (F := F) m ρ).expect (recvCell c j) 0 = N := by
  unfold Schedule.expect Schedule.amountOf; rw [duties_recv, erase_single h, Finset.sum_singleton]; rfl

theorem payload_send (c j d : Dev nD) : (prefixRd (F := F) m ρ).payload (sendCell c j) 0 d = sendPay m ρ c d :=
  if_pos (by have : j.val < 32 := j.isLt; show 2 + j.val < 34; omega)
theorem payload_recv (c j d : Dev nD) : (prefixRd (F := F) m ρ).payload (recvCell c j) 0 d = recvPay m ρ c d :=
  if_neg (by show ¬ 2 + (32 + j.val) < 34; omega)

/-- A barrier wait brings row `c` of every other device's table. -/
theorem rest_bar (c : Dev nD) :
    bigSep ((prefixRd (F := F) m ρ).duties (barCell c) 0 \ ∅) (fun d => (prefixRd (F := F) m ρ).payload (barCell c) 0 d)
      = bigSep (Finset.univ.erase c) (fun d => barPay c d) := by
  rw [Finset.sdiff_empty, duties_bar]; rfl
theorem rest_send {c j : Dev nD} (h : j ≠ c) :
    bigSep ((prefixRd (F := F) m ρ).duties (sendCell c j) 0 \ ∅) (fun d => (prefixRd (F := F) m ρ).payload (sendCell c j) 0 d) = sendPay m ρ c j := by
  rw [Finset.sdiff_empty, duties_send, erase_single h, bigSep_singleton, payload_send]
theorem rest_recv {c j : Dev nD} (h : j ≠ c) :
    bigSep ((prefixRd (F := F) m ρ).duties (recvCell c j) 0 \ ∅) (fun d => (prefixRd (F := F) m ρ).payload (recvCell c j) 0 d) = recvPay m ρ c j := by
  rw [Finset.sdiff_empty, duties_recv, erase_single h, bigSep_singleton, payload_recv]

/-! ## The levels, and what each device owes -/

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 34 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- What `c` owes device `j`'s receive cell `c` while the transfers from the `n`-th on are to come, -/
def owedRow (c : Dev nD) (n : ℕ) (j : Dev nD) : CellTallies nD τ sig Unit :=
  if j ≠ c ∧ n ≤ j.val then tallyAt (recvCell j c) () N else 0
/-- and device `j`'s barrier cell while the signals from the `n`-th on are to come. -/
def owedBar (c : Dev nD) (n : ℕ) (j : Dev nD) : CellTallies nD τ sig Unit :=
  if j ≠ c ∧ n ≤ j.val then tallyAt (barCell j) () 1 else 0

/-- All the rows `c` still owes; -/
def owedRows (c : Dev nD) (n : ℕ) : CellTallies nD τ sig Unit := ∑ j, owedRow c n j
/-- all the signals. -/
def owedBars (c : Dev nD) (n : ℕ) : CellTallies nD τ sig Unit := ∑ j, owedBar c n j

/-- What device `c` owes at launch. -/
def O₀ (c : Dev nD) : CellTallies nD τ sig Unit := owedRows c 0 + owedBars c 0

/-- A sum over the devices from the `n`-th on is the sum from the next plus the `n`-th's part. -/
theorem sum_from {A : Type} [AddCommMonoid A] (c j : Dev nD) (hj : j ≠ c) (t : Dev nD → A) :
    (∑ d, if d ≠ c ∧ j.val ≤ d.val then t d else 0) = (∑ d, if d ≠ c ∧ j.val + 1 ≤ d.val then t d else 0) + t j := by
  classical
  rw [← Finset.sum_erase_add _ _ (Finset.mem_univ j), ← Finset.sum_erase_add Finset.univ (fun d => if d ≠ c ∧ j.val + 1 ≤ d.val then t d else 0) (Finset.mem_univ j),
    if_pos ⟨hj, le_refl _⟩, if_neg (fun h => absurd h.2 (by omega)), add_zero]
  congr 1
  refine Finset.sum_congr rfl fun d hd => ?_
  have hne : d.val ≠ j.val := fun h => (Finset.mem_erase.mp hd).1 (Fin.ext h)
  refine if_congr ⟨fun h => ⟨h.1, ?_⟩, fun h => ⟨h.1, ?_⟩⟩ rfl rfl <;> have := h.2 <;> omega
/-- Where the `n`-th is the device itself there is no part to take away. -/
theorem sum_from_self {A : Type} [AddCommMonoid A] (c : Dev nD) (t : Dev nD → A) :
    (∑ d, if d ≠ c ∧ c.val ≤ d.val then t d else 0) = ∑ d, if d ≠ c ∧ c.val + 1 ≤ d.val then t d else 0 := by
  refine Finset.sum_congr rfl fun d _ => ?_
  refine if_congr ⟨fun h => ⟨h.1, ?_⟩, fun h => ⟨h.1, ?_⟩⟩ rfl rfl
  · have : d.val ≠ c.val := fun h' => h.1 (Fin.ext h'); have := h.2; omega
  · have := h.2; omega
/-- Past the last device nothing is left. -/
theorem sum_from_end {A : Type} [AddCommMonoid A] (c : Dev nD) (t : Dev nD → A) :
    (∑ d : Dev nD, if d ≠ c ∧ 32 ≤ d.val then t d else 0) = 0 :=
  Finset.sum_eq_zero fun d _ => if_neg fun h => absurd h.2 (by have : d.val < 32 := d.isLt; omega)

theorem owedRows_step {c j : Dev nD} (h : j ≠ c) : owedRows c j.val = owedRows c (j.val + 1) + tallyAt (recvCell j c) () N :=
  sum_from c j h fun d => tallyAt (recvCell d c) () N
theorem owedRows_self (c : Dev nD) : owedRows c c.val = owedRows c (c.val + 1) := sum_from_self c fun d => tallyAt (recvCell d c) () N
theorem owedRows_end (c : Dev nD) : owedRows c 32 = 0 := sum_from_end c fun d => tallyAt (recvCell d c) () N
theorem owedBars_step {c j : Dev nD} (h : j ≠ c) : owedBars c j.val = owedBars c (j.val + 1) + tallyAt (barCell j) () 1 :=
  sum_from c j h fun d => tallyAt (barCell d) () 1
theorem owedBars_self (c : Dev nD) : owedBars c c.val = owedBars c (c.val + 1) := sum_from_self c fun d => tallyAt (barCell d) () 1
theorem owedBars_end (c : Dev nD) : owedBars c 32 = 0 := sum_from_end c fun d => tallyAt (barCell d) () 1

/-- A tally at a cell, at a cell. -/
theorem sum_tally_pos {c : Dev nD} {n : ℕ} {cell : Dev nD → GSem nD τ sig} {k : ℕ} {g : GSem nD τ sig} {u : Unit}
    (h : 0 < (∑ j, if j ≠ c ∧ n ≤ j.val then (tallyAt (cell j) () k : CellTallies nD τ sig Unit) else 0) g u) : ∃ j, g = cell j := by
  rw [Finset.sum_apply, Finsupp.finset_sum_apply] at h
  obtain ⟨j, -, hj⟩ := Finset.exists_ne_zero_of_sum_ne_zero h.ne'
  refine ⟨j, ?_⟩
  split at hj
  · rw [tallyAt_apply] at hj
    by_contra hn
    exact hj (if_neg fun h' => hn h'.1)
  · exact absurd rfl hj

theorem owedRows_pos {c : Dev nD} {n : ℕ} {g : GSem nD τ sig} {u : Unit} (h : 0 < owedRows c n g u) : ∃ j, g = recvCell j c :=
  sum_tally_pos h
theorem owedBars_pos {c : Dev nD} {n : ℕ} {g : GSem nD τ sig} {u : Unit} (h : 0 < owedBars c n g u) : ∃ j, g = barCell j :=
  sum_tally_pos h

theorem O₀_pos {c : Dev nD} {g : GSem nD τ sig} {u : Unit} (h : 0 < O₀ c g u) : (∃ j, g = recvCell j c) ∨ ∃ j, g = barCell j := by
  unfold O₀ at h
  rw [Pi.add_apply, Finsupp.add_apply] at h
  rcases Nat.eq_zero_or_pos (owedRows c 0 g u) with h0 | h0
  · rw [h0, Nat.zero_add] at h; exact Or.inr (owedBars_pos h)
  · exact Or.inl (owedRows_pos h0)

theorem lv_bar (j : Dev nD) (u : Unit) : lv (barCell j) u = 1 := rfl
theorem lv_recv (c j : Dev nD) (u : Unit) : lv (recvCell c j) u = 2 := if_pos (by show 34 ≤ 2 + (32 + j.val); omega)

/-- A wait on a staging semaphore sits below everything a device owes. -/
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact (if_neg (by omega)).le)
      (fun g u hg => by
        rcases O₀_pos hg with ⟨j, rfl⟩ | ⟨j, rfl⟩
        · rw [lv_recv]; decide
        · rw [lv_bar]; decide)
  · rw [MayWait_zero]; iintro -; iempintro

/-- At its barrier wait a device owes rows only: receive cells, above its barrier cell. -/
theorem mayWait_bar (c : Dev nD) : (levAts L lv : sProp 𝕄) ⊢ MayWait (c : Thread nD τ) (.reg barS) () (owedRows c 0) :=
  MayOwe.of_cut (L := L) (lev := lv) 1 (fun p hp => by rw [Finset.mem_singleton.mp hp, L_tc]; exact Finset.mem_singleton_self _)
    (fun g u hg => by obtain ⟨j, rfl⟩ := owedRows_pos hg; exact Finset.mem_singleton_self _)
    (fun p hp => by rw [Finset.mem_singleton.mp hp]; exact le_refl 1)
    (fun g u hg => by obtain ⟨j, rfl⟩ := owedRows_pos hg; rw [lv_recv]; decide)

end Cert.PrefixProof

end
-- ==== Proof.Steps.lean ====
/-
# The three steps of the exchange

The kernel's three loops over the devices are printed unrolled: 32 conditional signals, 32 conditional transfers, 32
conditional pairs of waits. Each loop has a state indexed by how many devices it has passed, and one lemma moves the
state past one device. Where the device is the kernel's own, the step does nothing.
-/
module

public import proofs.«01_k».proof.Proof.Protocol

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- What all devices know: every cell's invariant, under the names `K`, and that every cell has reached round 0. -/
def records (K : Dev nD × Option (Fin 64) → ℕ) : sProp 𝕄 :=
  iprop((bigSep Finset.univ fun ck : Dev nD × Option (Fin 64) => cellInv ER (prefixRd m ρ) (K ck) (kcell ck))
    ∗ bigSep Finset.univ fun ck : Dev nD × Option (Fin 64) => reached ER (kcell ck) 0)

instance records_persistent (K : Dev nD × Option (Fin 64) → ℕ) : BI.Persistent (records m ρ K) := by unfold records; infer_instance

theorem inv_at (K : Dev nD × Option (Fin 64) → ℕ) (ck : Dev nD × Option (Fin 64)) :
    records m ρ K ⊢ cellInv ER (prefixRd m ρ) (K ck) (kcell ck) := by
  have e : (bigSep Finset.univ fun ck : Dev nD × Option (Fin 64) => (cellInv ER (prefixRd m ρ) (K ck) (kcell ck) : sProp 𝕄))
      ⊢ cellInv ER (prefixRd m ρ) (K ck) (kcell ck) := bigSep_elim (Finset.mem_univ ck)
  unfold records; iintro ⟨H, -⟩; iapply e; iexact H
theorem reached_at (K : Dev nD × Option (Fin 64) → ℕ) (ck : Dev nD × Option (Fin 64)) :
    records m ρ K ⊢ reached ER (kcell ck) 0 := by
  have e : (bigSep Finset.univ fun ck : Dev nD × Option (Fin 64) => (reached ER (kcell ck) 0 : sProp 𝕄)) ⊢ reached ER (kcell ck) 0 :=
    bigSep_elim (Finset.mem_univ ck)
  unfold records; iintro ⟨-, H⟩; iapply e; iexact H

/-! ## A loop's state -/

/-- Device by device: what is held of it after the loop passed it, or before. -/
def stage (Pre Post : Dev nD → sProp 𝕄) (n : ℕ) : sProp 𝕄 :=
  bigSep Finset.univ fun j : Dev nD => if j.val < n then Post j else Pre j

theorem stage_take (Pre Post : Dev nD → sProp 𝕄) (j : Dev nD) :
    stage Pre Post j.val = iprop(Pre j ∗ bigSep (Finset.univ.erase j) fun d : Dev nD => if d.val < j.val then Post d else Pre d) := by
  unfold stage
  rw [bigSep_univ_at _ j, if_neg (Nat.lt_irrefl _)]

theorem stage_put (Pre Post : Dev nD → sProp 𝕄) (j : Dev nD) :
    stage Pre Post (j.val + 1) = iprop(Post j ∗ bigSep (Finset.univ.erase j) fun d : Dev nD => if d.val < j.val then Post d else Pre d) := by
  unfold stage
  rw [bigSep_univ_at _ j, if_pos (Nat.lt_succ_self _)]
  congr 1
  refine bigSep_congr fun d hd => ?_
  have hne : d.val ≠ j.val := fun h => (Finset.mem_erase.mp hd).1 (Fin.ext h)
  exact if_congr (by omega) rfl rfl

/-- At a device whose part does not change the loop moves on for nothing. -/
theorem stage_skip (Pre Post : Dev nD → sProp 𝕄) (j : Dev nD) (h : Pre j = Post j) : stage Pre Post j.val = stage Pre Post (j.val + 1) := by
  rw [stage_take, stage_put, h]

theorem stage_start (Pre Post : Dev nD → sProp 𝕄) : stage Pre Post 0 = bigSep Finset.univ Pre :=
  bigSep_congr fun j _ => if_neg (Nat.not_lt_zero _)
theorem stage_end (Pre Post : Dev nD → sProp 𝕄) : stage Pre Post 32 = bigSep Finset.univ Post :=
  bigSep_congr fun j _ => if_pos j.isLt

/-- The kernel's test that device `j` is not its own: `me ≠ j`, widened and compared with zero. -/
def otherW (c j : Dev nD) : BitVec 1 :=
  Scalar.cmpi .ne (Scalar.extui (Scalar.cmpi .ne (Scalar.remsi (Scalar.divsi (Dev.word c) 1#32) 32#32) (BitVec.ofNat 32 j.val)) : BitVec 32) 0#32

theorem otherW_iff : ∀ c j : Dev nD, otherW c j = 1#1 ↔ j ≠ c := by decide +kernel

/-- To show `D` from `A`, where `C` follows from `B`: from `A` and a way from `B` to `C`. -/
theorem through {A B C D : sProp 𝕄} (h : B ⊢ C) (h' : iprop(A ∗ (B -∗ C)) ⊢ D) : A ⊢ D := by
  refine BIBase.Entails.trans ?_ h'
  iintro H
  isplitl [H]; · iexact H
  iintro HB; iapply h; iexact HB

/-! ## Signals -/

/-- Before its signal to `j`: the duty's token and row `j` of `c`'s own table, to hand over. -/
def sigPre (c j : Dev nD) : sProp 𝕄 := if j = c then iprop(emp) else iprop(dutyTok ER (barCell j) 0 c ∗ barPay j c)
/-- After it: nothing. -/
def sigPost (_ : Dev nD) : sProp 𝕄 := iprop(emp)

/-- The state with the first `n` devices signalled. -/
def SigSt (K : Dev nD × Option (Fin 64) → ℕ) (c : Dev nD) (n : ℕ) : sProp 𝕄 :=
  iprop(records m ρ K ∗ (∃ W, owes (c : Thread nD τ) (owedRows c 0 + owedBars c n) W) ∗ stage (sigPre c) sigPost n)

/-- One conditional signal: if the program `k` after it is right from the state past device `j`, the signal and `k` are
    from the state before it. `R` is what else is held. -/
theorem sig_step (K : Dev nD × Option (Fin 64) → ℕ) (c j : Dev nD) {b : BitVec 1} (hb : b = 1#1 ↔ j ≠ c)
    {dev : ℕ} {hlt : b = 1#1 → dev < nD} (hdev : dev = j.val) {α : Type} {Q : α → sProp 𝕄} {R : sProp 𝕄}
    {k : Prog (TpuEff nD τ sig (Elt F) Λ₀ .tc) α}
    (hk : iprop(R ∗ SigSt m ρ K c (j.val + 1)) ⊢ WP c k Q) :
    iprop(R ∗ SigSt m ρ K c j.val)
      ⊢ WP c (if h : b = 1#1 then (semSignalWord (⟨dev, hlt h⟩ : Dev nD) barS 1#32 >>= fun _ => k) else k) Q := by
  by_cases hj : j = c
  · rw [dif_neg (fun h => hb.mp h hj)]
    subst hj
    refine BIBase.Entails.trans (Entails.of_eq ?_) hk
    unfold SigSt
    rw [owedBars_self, stage_skip (sigPre j) sigPost j (if_pos rfl)]
  · have hb1 := hb.mpr hj
    rw [dif_pos hb1]
    subst hdev
    simp only [semSignalWord, Prog.bind_op, Prog.bind_ret]
    refine through hk ?_
    unfold SigSt
    rw [owedBars_step hj, stage_take, stage_put, sigPre, if_neg hj, sigPost]
    iintro ⟨⟨HR, #Hrec, ⟨%W, HO⟩, ⟨Htok, Hpay⟩, Hrest⟩, Hk⟩
    iapply (Rounds.wp_signal 𝒱₀ ER (prefixRd m ρ) (c : Thread nD τ) none (dst := (j : Thread nD τ)) (κ := K (j, none)) (r := 0)
        (d := c) (by rw [duties_bar]; exact Finset.mem_erase.mpr ⟨fun h => hj h.symm, Finset.mem_univ _⟩) (amount_bar m ρ j c) ()
        (owedRows c 0 + owedBars c (j.val + 1)) (by rw [add_assoc]) (W := W)) $$ [HO Htok Hpay]
    · isplitr; · iapply (inv_at m ρ K (j, none)); iexact Hrec
      isplitl [HO]; · iexact HO
      isplitl [Htok]; · iexact Htok
      isplitl [Hpay]; · rw [payload_bar]; iexact Hpay
      iapply (reached_at m ρ K (j, none)); iexact Hrec
    iintro HO
    iapply Hk
    isplitl [HR]; · iexact HR
    isplitr; · iexact Hrec
    isplitl [HO]; · iexists W; iexact HO
    isplitr; · iempintro
    iexact Hrest

/-! ## Transfers -/

/-- Before its transfer to `j`: the two duties' tokens, row `c` of `j`'s table, and a share of its own row. -/
def sendPre (c j : Dev nD) : sProp 𝕄 :=
  if j = c then iprop(emp)
  else iprop(dutyTok ER (sendCell c j) 0 j ∗ dutyTok ER (recvCell j c) 0 c ∗ barPay c j ∗ rowPts c c (leafAt j) (commBuf m ρ))
/-- After it: the token for the wait on its send cell. -/
def sendPost (c j : Dev nD) : sProp 𝕄 := if j = c then iprop(emp) else cred (tallyAt (sendCell c j) () N)

/-- The state with the transfers to the first `n` devices started. -/
def SendSt (K : Dev nD × Option (Fin 64) → ℕ) (c : Dev nD) (n : ℕ) : sProp 𝕄 :=
  iprop(records m ρ K ∗ (∃ W, owes (c : Thread nD τ) (owedRows c n) W) ∗ stage (sendPre m ρ c) (sendPost c) n)

/-- The rule of one transfer at the protocol's cells: `c` sends its own row into row `c` of `j`'s table. -/
theorem wp_send_row (K : Dev nD × Option (Fin 64) → ℕ) {c j : Dev nD} (hj : j ≠ c)
    {hsc : (rowM c : Memref sig (Dev.tc j : Thread nD τ).2.kind .vmem S1x512 .f32).view.ref.isScScratch = false}
    {hsrc : (rowM c).view.WordExact} {hdst : (rowM c).view.WordExact}
    {hsem : DmaTarget.Typed .vmem (.dma (recvQ c)) (.remote (Dev.tc j : Thread nD τ) (rowM c) (.dma (sendQ j)) hsc)}
    {α : Type} {Q : α → sProp 𝕄} {k : PUnit → Prog (TpuEff nD τ sig (Elt F) Λ₀ .tc) α} (fd) (W : Waits sig Unit) :
    iprop(cellInv ER (prefixRd m ρ) (K (c, some (sendK j))) (sendCell c j) ∗ cellInv ER (prefixRd m ρ) (K (j, some (recvK c))) (recvCell j c)
        ∗ rowPts c c (leafAt j) (commBuf m ρ) ∗ rowPts j c fullShare fd
        ∗ owes (c : Thread nD τ) (owedRows c j.val) W
        ∗ dutyTok ER (sendCell c j) 0 j ∗ reached ER (sendCell c j) 0
        ∗ dutyTok ER (recvCell j c) 0 c ∗ reached ER (recvCell j c) 0)
      ⊢ iprop(((cred (tallyAt (sendCell c j) () N) ∗ owes (c : Thread nD τ) (owedRows c (j.val + 1)) W) -∗ WP c (k ⟨⟩) Q)
          -∗ WP c (.op (.enqueueDma (rowM c) (.remote (Dev.tc j : Thread nD τ) (rowM c) (.dma (sendQ j)) hsc) (.dma (recvQ c)) hsrc hdst hsem) k) Q) := by
  have hp1 : ((rowM c).view.loc (c : Thread nD τ) ↦[(rowM c).view.set]{leafAt j} commBuf m ρ)
      ⊢ ((prefixRd m ρ).payload (sendCell c j) 0 j : sProp 𝕄) := by
    rw [payload_send]; exact BI.Entails.refl _
  have hp2 : ((rowM c).view.loc (j : Thread nD τ) ↦[(rowM c).view.set]{fullShare}
        ((rowM c).view.write (Elt F) fd ((rowM c).view.read (Elt F) (commBuf m ρ)) Finset.univ))
      ⊢ ((prefixRd m ρ).payload (recvCell j c) 0 c : sProp 𝕄) := by
    rw [payload_recv]; unfold recvPay
    rw [read_row]
    exact Entails.of_eq (rowPts_congr j c fullShare _ _ (write_row m ρ c fd))
  have hd1 : j ∈ (prefixRd (F := F) m ρ).duties (sendCell c j) 0 := by
    rw [duties_send, erase_single hj]; exact Finset.mem_singleton_self _
  have hd2 : c ∈ (prefixRd (F := F) m ρ).duties (recvCell j c) 0 := by
    rw [duties_recv, erase_single (Ne.symm hj)]; exact Finset.mem_singleton_self _
  have hN : (rowM c).view.amount (SemLoc.dma (recvQ c)) = N := (View.amount_dma _ _).trans (row_credit c)
  unfold rowPts
  exact Rounds.wp_send_pointsTo 𝒱₀ ER (prefixRd m ρ) (c : Thread nD τ) none (κ₁ := K (c, some (sendK j))) (κ₂ := K (j, some (recvK c)))
    (src := rowM c) (dst := rowM c) (c' := (j : Thread nD τ)) (r₁ := 0) (r₂ := 0) (d₁ := j) (d₂ := c) (fd := fd) hd1 hd2
    () () N hN (amount_own m ρ c (sendK j) j) (amount_own m ρ j (recvK c) c) (owedRows c (j.val + 1)) (owedRows_step hj) (W := W) hp1 hp2

/-- One conditional transfer, as `sig_step`. -/
theorem send_step (K : Dev nD × Option (Fin 64) → ℕ) (c j : Dev nD) {b : BitVec 1} (hb : b = 1#1 ↔ j ≠ c)
    {dev : ℕ} {hlt : b = 1#1 → dev < nD} (hdev : dev = j.val)
    {q1 : DmaSem sig} (hq1 : q1 = sendQ j) {q2 : b = 1#1 → DmaSem sig} (hq2 : ∀ h, q2 h = recvQ c)
    {o : Fin 2 → ℕ} (ho : o = ![c.val, 0]) {p : b = 1#1 → ∀ a, o a + S1x512.size a ≤ S32x512.size a}
    {α : Type} {Q : α → sProp 𝕄} {R : sProp 𝕄} {k : Prog (TpuEff nD τ sig (Elt F) Λ₀ .tc) α}
    (hk : iprop(R ∗ SendSt m ρ K c (j.val + 1)) ⊢ WP c k Q) :
    iprop(R ∗ SendSt m ρ K c j.val)
      ⊢ WP c (if h : b = 1#1 then
          (Prog.lift (.enqueueDma (rM.slice (Rect.unit (s := S32x512) o S1x512.size (p h)) (fun _ => rfl))
            (.remote (Dev.tc (⟨dev, hlt h⟩ : Dev nD)) (rM.slice (Rect.unit (s := S32x512) o S1x512.size (p h)) (fun _ => rfl)) (.dma q1))
            (.dma (q2 h)) (View.wordExact_bits rfl) (View.wordExact_bits rfl) ⟨⟨rfl, Or.inl rfl⟩, trivial⟩) >>= fun _ => k) else k) Q := by
  by_cases hj : j = c
  · rw [dif_neg (fun h => hb.mp h hj)]
    subst hj
    refine BIBase.Entails.trans (Entails.of_eq ?_) hk
    unfold SendSt
    rw [owedRows_self, stage_skip (sendPre m ρ j) (sendPost j) j (by unfold sendPre sendPost; rw [if_pos rfl, if_pos rfl])]
  · have hb1 := hb.mpr hj
    rw [dif_pos hb1]
    subst hdev ho hq1
    simp only [Prog.lift, Prog.bind_op, Prog.bind_ret, hq2 hb1]
    refine through hk ?_
    unfold SendSt
    rw [stage_take, stage_put, sendPre, if_neg hj, sendPost, if_neg hj]
    unfold barPay
    iintro ⟨⟨HR, #Hrec, ⟨%W, HO⟩, ⟨Hts, Htr, ⟨%fd, Hdst⟩, Hsrc⟩, Hrest⟩, Hk⟩
    iapply (wp_send_row m ρ K hj fd W) $$ [HO Hts Htr Hdst Hsrc]
    · isplitr; · iapply (inv_at m ρ K (c, some (sendK j))); iexact Hrec
      isplitr; · iapply (inv_at m ρ K (j, some (recvK c))); iexact Hrec
      isplitl [Hsrc]; · iexact Hsrc
      isplitl [Hdst]; · iexact Hdst
      isplitl [HO]; · iexact HO
      isplitl [Hts]; · iexact Hts
      isplitr; · iapply (reached_at m ρ K (c, some (sendK j))); iexact Hrec
      isplitl [Htr]; · iexact Htr
      iapply (reached_at m ρ K (j, some (recvK c))); iexact Hrec
    iintro ⟨Hc, HO⟩
    iapply Hk
    isplitl [HR]; · iexact HR
    isplitr; · iexact Hrec
    isplitl [HO]; · iexists W; iexact HO
    isplitl [Hc]; · iexact Hc
    iexact Hrest

/-! ## Waits -/

/-- What `c` keeps of its own row and of its two unused cells. -/
def waitSelf (c : Dev nD) : sProp 𝕄 :=
  iprop(rowPts c c (leafAt c) (commBuf m ρ) ∗ semVal (sendCell c c) 0 ∗ semVal (recvCell c c) 0)

/-- Before its two waits on `j`: the two tokens and its positions at the two cells. -/
def waitPre (c j : Dev nD) : sProp 𝕄 :=
  if j = c then waitSelf m ρ c
  else iprop(cred (tallyAt (recvCell c j) () N) ∗ cred (tallyAt (sendCell c j) () N) ∗ atPos ER (recvCell c j) 0 ∅ 0 ∗ atPos ER (sendCell c j) 0 ∅ 0)
/-- After them: row `j` of its table holding `j`'s product, the share of its own row back, and the two cells closed. -/
def waitPost (c j : Dev nD) : sProp 𝕄 :=
  if j = c then waitSelf m ρ c
  else iprop(recvPay m ρ c j ∗ sendPay m ρ c j ∗ semVal (sendCell c j) 0 ∗ semVal (recvCell c j) 0)

/-- The state with the first `n` devices waited for. -/
def WaitSt (K : Dev nD × Option (Fin 64) → ℕ) (c : Dev nD) (n : ℕ) : sProp 𝕄 :=
  iprop(records m ρ K ∗ (∃ W, owes (c : Thread nD τ) 0 W) ∗ stage (waitPre m ρ c) (waitPost m ρ c) n)

/-- One conditional pair of waits, as `sig_step`. -/
theorem wait_step (K : Dev nD × Option (Fin 64) → ℕ) (c j : Dev nD) {b : BitVec 1} (hb : b = 1#1 ↔ j ≠ c)
    {q1 q2 : DmaSem sig} (hq1 : q1 = recvQ j) (hq2 : q2 = sendQ j)
    {o1 o2 : Fin 2 → ℕ} {p1 : ∀ a, o1 a + S1x512.size a ≤ S32x512.size a} {p2 : b = 1#1 → ∀ a, o2 a + S1x512.size a ≤ S32x512.size a}
    {α : Type} {Q : α → sProp 𝕄} {R : sProp 𝕄} {k : Prog (TpuEff nD τ sig (Elt F) Λ₀ .tc) α}
    (hk : iprop(R ∗ WaitSt m ρ K c (j.val + 1)) ⊢ WP c k Q) :
    iprop(R ∗ WaitSt m ρ K c j.val)
      ⊢ WP c (if h : b = 1#1 then
          (Prog.lift (.waitDma2 q1 (rM.slice (Rect.unit (s := S32x512) o1 S1x512.size p1) (fun _ => rfl))
              (rM.slice (Rect.unit (s := S32x512) o1 S1x512.size p1) (fun _ => rfl)) (View.wordExact_bits rfl) (View.wordExact_bits rfl)) >>= fun _ =>
            Prog.lift (.waitDma2 q2 (rM.slice (Rect.unit (s := S32x512) o2 S1x512.size (p2 h)) (fun _ => rfl))
              (rM.slice (Rect.unit (s := S32x512) o2 S1x512.size (p2 h)) (fun _ => rfl)) (View.wordExact_bits rfl) (View.wordExact_bits rfl))
              >>= fun _ => k) else k) Q := by
  by_cases hj : j = c
  · rw [dif_neg (fun h => hb.mp h hj)]
    subst hj
    refine BIBase.Entails.trans (Entails.of_eq ?_) hk
    unfold WaitSt
    rw [stage_skip (waitPre m ρ j) (waitPost m ρ j) j (by unfold waitPre waitPost; rw [if_pos rfl, if_pos rfl])]
  · have hb1 := hb.mpr hj
    rw [dif_pos hb1]
    subst hq1 hq2
    simp only [Prog.lift, Prog.bind_op, Prog.bind_ret]
    refine through hk ?_
    unfold WaitSt
    rw [stage_take, stage_put, waitPre, if_neg hj, waitPost, if_neg hj]
    iintro ⟨⟨HR, #Hrec, ⟨%W, HO⟩, ⟨Hcr, Hcs, Har, Has⟩, Hrest⟩, Hk⟩
    ihave #Hir := (inv_at m ρ K (c, some (recvK j))) $$ Hrec
    ihave #His := (inv_at m ρ K (c, some (sendK j))) $$ Hrec
    iapply (Rounds.wp_wait_rest_token 𝒱₀ ER (prefixRd m ρ) (c : Thread nD τ) none (κ := K (c, some (recvK j)))
        (wpE_waitDma2_eq 𝒱₀ (c : Thread nD τ) none Set.univ) (Set.mem_univ _) () (O := 0) (W := W) (R := 0) (m := 0) (T := ∅)
        (by rw [Nat.zero_add, expect_recv m ρ hj]; rfl)) $$ [Hcr HO Har]
    · isplitr; · iexact Hir
      isplitl [Hcr]; · iexact Hcr
      isplitl [HO]; · iexact HO
      isplitr; · rw [MayWait_zero]; iempintro
      iexact Har
    iintro ⟨HO, Har, -, Hpr⟩
    ihave Hpr := (Entails.of_eq (rest_recv m ρ hj)) $$ Hpr
    iapply (Rounds.wp_wait_rest_token 𝒱₀ ER (prefixRd m ρ) (c : Thread nD τ) none (κ := K (c, some (sendK j)))
        (wpE_waitDma2_eq 𝒱₀ (c : Thread nD τ) none Set.univ) (Set.mem_univ _) () (O := 0) (R := 0) (m := 0) (T := ∅)
        (by rw [Nat.zero_add, expect_send m ρ hj]; rfl)) $$ [Hcs HO Has]
    · isplitr; · iexact His
      isplitl [Hcs]; · iexact Hcs
      isplitl [HO]; · iexact HO
      isplitr; · rw [MayWait_zero]; iempintro
      iexact Has
    iintro ⟨HO, Has, -, Hps⟩
    ihave Hps := (Entails.of_eq (rest_send m ρ hj)) $$ Hps
    imod (Rounds.cell_close ER (prefixRd m ρ) (Set.mem_univ (K (c, some (sendK j)))) (fun h => h) (R := 0 + 1) (duties_later m ρ (sendCell c j))) $$ [Has] with HzS
    · isplitr; · iexact His
      iexact Has
    imod (Rounds.cell_close ER (prefixRd m ρ) (Set.mem_univ (K (c, some (recvK j)))) (fun h => h) (R := 0 + 1) (duties_later m ρ (recvCell c j))) $$ [Har] with HzR
    · isplitr; · iexact Hir
      iexact Har
    iapply Hk
    isplitl [HR]; · iexact HR
    isplitr; · iexact Hrec
    isplitl [HO]; · iexists _; iexact HO
    isplitl [Hpr Hps HzS HzR]
    · isplitl [Hpr]; · iexact Hpr
      isplitl [Hps]; · iexact Hps
      isplitl [HzS] <;> iassumption
    iexact Hrest

end Cert.PrefixProof

end
-- ==== Proof.Moves.lean ====
/-
# The other moves of the body

The loads and stores, the barrier wait, and what is regrouped between the loops: the signals' state into the transfers',
the transfers' into the waits', and the waits' into the whole table.
-/
module

public import proofs.«01_k».proof.Proof.Steps

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Steps of any program -/

section Prog

variable (c : Dev nD) {α β : Type} {P P' R : sProp (MT nD τ sig Unit (Elt F) ℕ UU ℕ)} {Q : α → sProp (MT nD τ sig Unit (Elt F) ℕ UU ℕ)}

theorem bind_step {p : Prog (TpuEff nD τ sig (Elt F) Λ₀ .tc) β} {k : β → Prog (TpuEff nD τ sig (Elt F) Λ₀ .tc) α}
    (h : P ⊢ WP c p fun a => WP c (k a) Q) : P ⊢ WP c (p >>= k) Q := by
  unfold WP; rw [wp_bind]; exact h

theorem lift_bind {e : TpuEff nD τ sig (Elt F) Λ₀ .tc β} {k : β → Prog (TpuEff nD τ sig (Elt F) Λ₀ .tc) α} : (Prog.lift e >>= k) = .op e k := rfl

/-- Reading the device's number. -/
theorem device_step {k : Dev nD → Prog (TpuEff nD τ sig (Elt F) Λ₀ .tc) α} (h : P ⊢ WP c (k c) Q) : P ⊢ WP c (Prog.lift .deviceId >>= k) Q := by
  unfold WP; rw [lift_bind, wp_deviceId]; exact h

theorem ret_step {a : α} (h : P ⊢ Q a) : P ⊢ WP c (pure a) Q := by
  unfold WP; rw [Prog.pure_eq_ret, wp_ret]; exact h.trans fupd_intro

theorem fupd_step {p : Prog (TpuEff nD τ sig (Elt F) Λ₀ .tc) α} (h : P ⊢ |={Set.univ}=> P') (h' : P' ⊢ WP c p Q) : P ⊢ WP c p Q :=
  h.trans ((fupd_mono h').trans (fupd_wp _ _ _ _ _))

theorem hz : (![0, 0] : Fin 2 → Nat) = fun _ => 0 := funext fun a => by fin_cases a <;> rfl

/-- Device `c`'s staged block of `x`; -/
def xPts : sProp 𝕄 := ((c : Thread nD τ).loc cc0_stg0_0) ↦{fullShare} xstg m ρ c
/-- its staged result, at contents `f`; -/
def oPts (f : (cc0_stg1_0 : Ref sig .tc).ty.Contents (Elt F)) : sProp 𝕄 := ((c : Thread nD τ).loc cc0_stg1_0) ↦{fullShare} f
/-- its table, after the exchange. -/
def tabPts : sProp 𝕄 := ((c : Thread nD τ).loc cc0_scratch0) ↦{fullShare} commBuf m ρ

theorem read_whole_x (p : ∀ a, (![0, 0] : Fin 2 → ℕ) a + S1024x512.size a ≤ S1024x512.size a) (f : (cc0_stg0_0 : Ref sig .tc).ty.Contents (Elt F)) :
    xM.view.readAt (Elt F) (Rect.unit (s := S1024x512) ![0, 0] S1024x512.size p).toLoadRect f = f :=
  Memref.readAt_unit_zero (Elt F) cc0_stg0_0 hz p f
theorem write_whole_o (p : ∀ a, (![0, 0] : Fin 2 → ℕ) a + S1024x512.size a ≤ S1024x512.size a) (f w : (cc0_stg1_0 : Ref sig .tc).ty.Contents (Elt F)) :
    (oM.access (Rect.unit (s := S1024x512) ![0, 0] S1024x512.size p) : View sig .tc _ _ _).write (Elt F) f w Finset.univ = w :=
  Memref.write_access_unit_zero_univ (Elt F) cc0_stg1_0 hz p f w

/-- The load of the staged block. -/
theorem x_load {p : ∀ a, (![0, 0] : Fin 2 → ℕ) a + S1024x512.size a ≤ S1024x512.size a}
    {hl : xM.view.LoadsAt (Rect.unit (s := S1024x512) ![0, 0] S1024x512.size p).toLoadRect}
    {k : (S1024x512.Idx → Elt F .f32) → Prog (TpuEff nD τ sig (Elt F) Λ₀ .tc) α}
    (h : iprop(R ∗ xPts m ρ c) ⊢ WP c (k (xstg m ρ c)) Q) :
    iprop(R ∗ xPts m ρ c) ⊢ WP c (Prog.lift (.load xM (Rect.unit (s := S1024x512) ![0, 0] S1024x512.size p).toLoadRect hl) >>= k) Q := by
  refine through h ?_
  unfold xPts
  rw [lift_bind]
  iintro ⟨⟨HR, Hx⟩, Hk⟩
  iapply (wp_load 𝒱₀ (c : Thread nD τ) none Set.univ (m := xM) (Finset.subset_univ _)) $$ Hx; iintro Hx
  rw [read_whole_x]
  iapply Hk
  isplitl [HR] <;> iassumption

/-- The (unused) load and the store of the result. -/
theorem o_store {p p' : ∀ a, (![0, 0] : Fin 2 → ℕ) a + S1024x512.size a ≤ S1024x512.size a}
    {hl : oM.view.LoadsAt (Rect.unit (s := S1024x512) ![0, 0] S1024x512.size p).toLoadRect}
    {w : S1024x512.Idx → Elt F .f32} {hx : (oM.access (Rect.unit (s := S1024x512) ![0, 0] S1024x512.size p')).Stores Finset.univ} {hm}
    {k : Prog (TpuEff nD τ sig (Elt F) Λ₀ .tc) α} (f : (cc0_stg1_0 : Ref sig .tc).ty.Contents (Elt F))
    (h : iprop(R ∗ oPts c w) ⊢ WP c k Q) :
    iprop(R ∗ oPts c f) ⊢ WP c (Prog.lift (.load oM (Rect.unit (s := S1024x512) ![0, 0] S1024x512.size p).toLoadRect hl) >>= fun _ =>
      Prog.lift (.store oM (Rect.unit (s := S1024x512) ![0, 0] S1024x512.size p') w Finset.univ hx hm) >>= fun _ => k) Q := by
  refine through h ?_
  unfold oPts
  rw [lift_bind]
  iintro ⟨⟨HR, Hx⟩, Hk⟩
  iapply (wp_load 𝒱₀ (c : Thread nD τ) none Set.univ (m := oM) (Finset.subset_univ _)) $$ Hx; iintro Hx
  rw [lift_bind]
  iapply (wp_store 𝒱₀ (c : Thread nD τ) none Set.univ (m := oM) (r := Rect.unit (s := S1024x512) ![0, 0] S1024x512.size p') (Mk := Finset.univ)
    (Finset.subset_univ _)) $$ Hx; iintro Hx
  rw [write_whole_o]
  iapply Hk
  isplitl [HR] <;> iassumption

/-- The (unused) load of the device's own row. -/
theorem own_load {o : Fin 2 → ℕ} (ho : o = ![c.val, 0]) {p : ∀ a, o a + S1x512.size a ≤ S32x512.size a}
    {hl : rM.view.LoadsAt (Rect.unit (s := S32x512) o S1x512.size p).toLoadRect}
    {k : (S1x512.Idx → Elt F .f32) → Prog (TpuEff nD τ sig (Elt F) Λ₀ .tc) α}
    (h : ∀ v, iprop(R ∗ barPay c c) ⊢ WP c (k v) Q) :
    iprop(R ∗ barPay c c) ⊢ WP c (Prog.lift (.load rM (Rect.unit (s := S32x512) o S1x512.size p).toLoadRect hl) >>= k) Q := by
  subst ho
  unfold barPay rowPts
  rw [lift_bind]
  iintro ⟨HR, ⟨%f, Hx⟩⟩
  iapply (wp_load_rect 𝒱₀ (c : Thread nD τ) none Set.univ (m := rM) (r := rowR c) (Finset.Subset.refl _)) $$ Hx; iintro Hx
  iapply (h _)
  unfold barPay rowPts
  isplitl [HR]; · iexact HR
  iexists f; iexact Hx

/-- The store of the device's product into its own row. -/
theorem own_store {o : Fin 2 → ℕ} (ho : o = ![c.val, 0]) {p : ∀ a, o a + S1x512.size a ≤ S32x512.size a}
    {w : S1x512.Idx → Elt F .f32} (hw : w = rowVal m ρ c)
    {hx : (rM.access (Rect.unit (s := S32x512) o S1x512.size p)).Stores Finset.univ} {hm}
    {k : Prog (TpuEff nD τ sig (Elt F) Λ₀ .tc) α} (h : iprop(R ∗ rowPts c c fullShare (commBuf m ρ)) ⊢ WP c k Q) :
    iprop(R ∗ barPay c c)
      ⊢ WP c (Prog.lift (.store rM (Rect.unit (s := S32x512) o S1x512.size p) w Finset.univ hx hm) >>= fun _ => k) Q := by
  subst ho hw
  refine through h ?_
  have e (f : (cc0_scratch0 : Ref sig .tc).ty.Contents (Elt F)) : (rowPts c c fullShare f : sProp 𝕄)
      = ((rM.access (rowR c)).loc (c : Thread nD τ) ↦[(rM.access (rowR c)).set]{fullShare} f) := rfl
  unfold barPay
  rw [lift_bind]
  iintro ⟨⟨HR, ⟨%f, Hx⟩⟩, Hk⟩
  ihave Hx := (Entails.of_eq (e f)) $$ Hx
  iapply (wp_store 𝒱₀ (c : Thread nD τ) none Set.univ (m := rM) (r := rowR c) (Mk := Finset.univ) (S := (rM.access (rowR c)).set) (f := f)
    (Finset.Subset.refl _)) $$ Hx; iintro Hx
  iapply Hk
  isplitl [HR]; · iexact HR
  iapply (Entails.of_eq (rowPts_congr c c fullShare _ _ (write_row m ρ c f)))
  iapply (Entails.of_eq (e _).symm)
  iexact Hx

/-- The load of row `j` of the table after the exchange: `j`'s product. -/
theorem row_load (j : Dev nD) {p : ∀ a, (![j.val, 0] : Fin 2 → ℕ) a + S1x512.size a ≤ S32x512.size a}
    {hl : rM.view.LoadsAt (Rect.unit (s := S32x512) ![j.val, 0] S1x512.size p).toLoadRect}
    {k : (S1x512.Idx → Elt F .f32) → Prog (TpuEff nD τ sig (Elt F) Λ₀ .tc) α}
    (h : iprop(R ∗ tabPts m ρ c) ⊢ WP c (k (rowVal m ρ j)) Q) :
    iprop(R ∗ tabPts m ρ c) ⊢ WP c (Prog.lift (.load rM (Rect.unit (s := S32x512) ![j.val, 0] S1x512.size p).toLoadRect hl) >>= k) Q := by
  refine through h ?_
  unfold tabPts
  rw [lift_bind]
  iintro ⟨⟨HR, Hx⟩, Hk⟩
  iapply (wp_load_rect 𝒱₀ (c : Thread nD τ) none Set.univ (m := rM) (r := rowR j) (Finset.subset_univ _)) $$ Hx; iintro Hx
  rw [show (rM.access (rowR j) : View sig .tc _ _ _).read (Elt F) (commBuf m ρ) = rowVal m ρ j from read_row m ρ j]
  iapply Hk
  isplitl [HR] <;> iassumption

/-! ## The barrier wait -/

/-- After all its signals a device waits for the 31 units of the others, and has row `c` of every other device's table. -/
theorem bar_wait (K : Dev nD × Option (Fin 64) → ℕ) {k : Prog (TpuEff nD τ sig (Elt F) Λ₀ .tc) α}
    (h : iprop(R ∗ (records m ρ K ∗ semVal (barCell c) 0 ∗ (∃ W, owes (c : Thread nD τ) (owedRows c 0) W)
        ∗ bigSep (Finset.univ.erase c) fun d => barPay c d)) ⊢ WP c k Q) :
    iprop((R ∗ cred (tallyAt (barCell c) () 31) ∗ atPos ER (barCell c) 0 ∅ 0 ∗ levAts L lv) ∗ SigSt m ρ K c 32)
      ⊢ WP c (semWaitWord barS 31#32 >>= fun _ => k) Q := by
  refine through h ?_
  unfold SigSt
  simp only [semWaitWord, Prog.lift, Prog.bind_op, Prog.bind_ret]
  iintro ⟨⟨⟨HR, HcB, HatB, #Hlev⟩, #Hrec, ⟨%W, HO⟩, -⟩, Hk⟩
  rw [owedBars_end, add_zero]
  ihave #HIb := (inv_at m ρ K (c, none)) $$ Hrec
  iapply (Rounds.wp_wait_rest_token 𝒱₀ ER (prefixRd m ρ) (c : Thread nD τ) none (κ := K (c, none))
      (wpE_semWait_eq 𝒱₀ (c : Thread nD τ) none Set.univ) (Set.mem_univ _) () (O := owedRows c 0) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  imod (Rounds.cell_close ER (prefixRd m ρ) (Set.mem_univ (K (c, none))) (fun h => h) (R := 0 + 1) (duties_later m ρ (barCell c))) $$ [HatB] with HzB
  · isplitr; · iexact HIb
    iexact HatB
  iapply Hk
  isplitl [HR]; · iexact HR
  isplitr; · iexact Hrec
  isplitl [HzB]; · iexact HzB
  isplitl [HO]; · iexists _; iexact HO
  iexact Hp

end Prog

/-! ## Between the loops -/

/-- Something of one's own and something of each other device. -/
theorem bigSep_own (c : Dev nD) (A : sProp 𝕄) (B : Dev nD → sProp 𝕄) :
    (bigSep Finset.univ fun j : Dev nD => if j = c then A else B j) = iprop(A ∗ bigSep (Finset.univ.erase c) B) := by
  rw [bigSep_univ_at _ c, if_pos rfl]
  congr 1
  exact bigSep_congr fun j hj => if_neg (Finset.mem_erase.mp hj).1

/-- The two tokens of each transfer a device will start. -/
def sendToks (c : Dev nD) : sProp 𝕄 :=
  bigSep (Finset.univ.erase c) fun j => iprop(dutyTok ER (sendCell c j) 0 j ∗ dutyTok ER (recvCell j c) 0 c)

/-- Its own row complete and the others' rows handed over, a device may start its transfers; it keeps one share of its row. -/
theorem sends_ready (K : Dev nD × Option (Fin 64) → ℕ) (c : Dev nD) :
    iprop((records m ρ K ∗ (∃ W, owes (c : Thread nD τ) (owedRows c 0) W) ∗ (bigSep (Finset.univ.erase c) fun d => barPay c d)
        ∗ sendToks c) ∗ rowPts c c fullShare (commBuf m ρ))
      ⊢ iprop(rowPts c c (leafAt c) (commBuf m ρ) ∗ SendSt m ρ K c 0) := by
  unfold SendSt sendToks
  rw [stage_start, row_leaves, bigSep_univ_at _ c]
  unfold sendPre
  rw [bigSep_own, bigSep_sep', bigSep_sep', bigSep_sep', bigSep_sep']
  iintro ⟨⟨Hrec, HO, Hpay, ⟨Hs, Hr⟩⟩, ⟨Hl, Hls⟩⟩
  isplitl [Hl]; · iexact Hl
  isplitl [Hrec]; · iexact Hrec
  isplitl [HO]; · iexact HO
  isplitr; · iempintro
  isplitl [Hs]; · iexact Hs
  isplitl [Hr]; · iexact Hr
  isplitl [Hpay]; · iexact Hpay
  iexact Hls

/-- What is kept for the waits: the tokens for the rows to come, and the positions at the cells. -/
def waitToks (c : Dev nD) : sProp 𝕄 :=
  bigSep (Finset.univ.erase c) fun j => iprop(cred (tallyAt (recvCell c j) () N) ∗ atPos ER (recvCell c j) 0 ∅ 0 ∗ atPos ER (sendCell c j) 0 ∅ 0)

/-- All transfers started, a device may wait. -/
theorem waits_ready (K : Dev nD × Option (Fin 64) → ℕ) (c : Dev nD) :
    iprop((rowPts c c (leafAt c) (commBuf m ρ) ∗ semVal (sendCell c c) 0 ∗ semVal (recvCell c c) 0 ∗ waitToks c) ∗ SendSt m ρ K c 32)
      ⊢ WaitSt m ρ K c 0 := by
  unfold SendSt WaitSt waitToks
  rw [stage_end, stage_start, owedRows_end]
  unfold sendPost waitPre waitSelf
  rw [bigSep_own, bigSep_own, bigSep_sep', bigSep_sep', bigSep_sep', bigSep_sep', bigSep_sep']
  iintro ⟨⟨Hl, HzS, HzR, ⟨Hcr, Har, Has⟩⟩, ⟨Hrec, HO, -, Hcs⟩⟩
  isplitl [Hrec]; · iexact Hrec
  isplitl [HO]; · iexact HO
  isplitl [Hl HzS HzR]
  · isplitl [Hl]; · iexact Hl
    isplitl [HzS] <;> iassumption
  isplitl [Hcr]; · iexact Hcr
  isplitl [Hcs]; · iexact Hcs
  isplitl [Har] <;> iassumption

/-- The kernel's own 64 semaphores of device `c`, all at zero. -/
def ownZero (c : Dev nD) : sProp 𝕄 := bigSep Finset.univ fun j : Dev nD => iprop(semVal (sendCell c j) 0 ∗ semVal (recvCell c j) 0)

/-- All waits done, a device has its whole table at the final contents, and its semaphores at zero. -/
theorem waits_done (K : Dev nD × Option (Fin 64) → ℕ) (c : Dev nD) :
    WaitSt m ρ K c 32 ⊢ iprop(((∃ W, owes (c : Thread nD τ) 0 W) ∗ ownZero c) ∗ tabPts m ρ c) := by
  unfold WaitSt ownZero tabPts
  rw [stage_end, table_rows, bigSep_univ_at (fun j : Dev nD => rowPts c j fullShare (commBuf m ρ)) c, row_leaves c c,
    bigSep_univ_at (fun d : Dev nD => rowPts c c (leafAt d) (commBuf m ρ)) c,
    bigSep_univ_at (fun j : Dev nD => iprop(semVal (sendCell c j) 0 ∗ semVal (recvCell c j) 0)) c]
  unfold waitPost waitSelf recvPay sendPay
  rw [bigSep_own, bigSep_sep', bigSep_sep', bigSep_sep']
  iintro ⟨Hrec, HO, ⟨Hl, HzS, HzR⟩, ⟨Hr, Hs, HS, HV⟩⟩
  isplitl [HO HzS HzR HS HV]
  · isplitl [HO]; · iexact HO
    isplitl [HzS HzR]
    · isplitl [HzS] <;> iassumption
    isplitl [HS] <;> iassumption
  isplitl [Hl Hs]
  · isplitl [Hl] <;> iassumption
  iexact Hr

theorem after_waits (c : Dev nD) (K : Dev nD × Option (Fin 64) → ℕ) {α : Type} {R : sProp (MT nD τ sig Unit (Elt F) ℕ UU ℕ)}
    {Q : α → sProp (MT nD τ sig Unit (Elt F) ℕ UU ℕ)} {p : Prog (TpuEff nD τ sig (Elt F) Λ₀ .tc) α}
    (h : iprop((R ∗ (∃ W, owes (c : Thread nD τ) 0 W) ∗ ownZero c) ∗ tabPts m ρ c) ⊢ WP c p Q) : iprop(R ∗ WaitSt m ρ K c 32) ⊢ WP c p Q := by
  refine BIBase.Entails.trans ?_ h
  have e := waits_done m ρ K c
  iintro ⟨HR, Hw⟩
  ihave H := e $$ Hw
  icases H with ⟨Hs, Ht⟩
  isplitr [Ht]
  · isplitl [HR] <;> iassumption
  iexact Ht

/-- The two cells of a device for itself are not used: they close at once. -/
theorem own_close (K : Dev nD × Option (Fin 64) → ℕ) (c : Dev nD) :
    iprop(records m ρ K ∗ atPos ER (sendCell c c) 0 ∅ 0 ∗ atPos ER (recvCell c c) 0 ∅ 0)
      ⊢ |={Set.univ}=> iprop(semVal (sendCell c c) 0 ∗ semVal (recvCell c c) 0) := by
  have none_left : ({c} : Finset (Dev nD)).erase c = ∅ := by simp
  have hS : ∀ r, 0 ≤ r → (prefixRd (F := F) m ρ).duties (sendCell c c) r = ∅ := fun r _ => by
    rcases Nat.eq_zero_or_pos r with rfl | h
    · rw [duties_send, none_left]
    · exact duties_later m ρ _ r h
  have hR : ∀ r, 0 ≤ r → (prefixRd (F := F) m ρ).duties (recvCell c c) r = ∅ := fun r _ => by
    rcases Nat.eq_zero_or_pos r with rfl | h
    · rw [duties_recv, none_left]
    · exact duties_later m ρ _ r h
  iintro ⟨#Hrec, Has, Har⟩
  imod (Rounds.cell_close ER (prefixRd m ρ) (Set.mem_univ (K (c, some (sendK c)))) (fun h => h) (R := 0) hS) $$ [Has] with HzS
  · isplitr; · iapply (inv_at m ρ K (c, some (sendK c))); iexact Hrec
    iexact Has
  imod (Rounds.cell_close ER (prefixRd m ρ) (Set.mem_univ (K (c, some (recvK c)))) (fun h => h) (R := 0) hR) $$ [Har] with HzR
  · isplitr; · iapply (inv_at m ρ K (c, some (recvK c))); iexact Hrec
    iexact Har
  imodintro
  isplitl [HzS] <;> iassumption

end Cert.PrefixProof

end
-- ==== Proof.Signals.lean ====
/-
# The parts that signal

The kernel's body is printed in parts. The first four send the 32 conditional signals, then wait on the barrier and load.
-/
module

public import proofs.«01_k».proof.Proof.Moves

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 64) → ℕ) (c : Dev nD)
variable (h0 : xM.IsWhole) (h1 : oM.IsWhole) (h2 : rM.IsWhole)

/-- The kernel's number of its own device. -/
abbrev meW : BitVec 32 := Scalar.remsi (Scalar.divsi (Dev.word c) 1#32) 32#32
/-- The barrier semaphore as the kernel names it. -/
abbrev barSems : Sems sig S_ := SemArray.scalar (sig.barrier 0 rfl)

set_option maxHeartbeats 0 in
/-- Signals 0 to 7. -/
theorem part1_ok {R : sProp (MT nD τ sig Unit (Elt F) ℕ UU ℕ)} {Q : _ → sProp (MT nD τ sig Unit (Elt F) ℕ UU ℕ)} (h : iprop(R ∗ SigSt m ρ K c 8) ⊢ Q ⟨c, meW c, barSems⟩) :
    iprop(R ∗ SigSt m ρ K c 0)
      ⊢ WP c (k0_part1 (F := F) xM h0 oM h1 rM h2 cc0_scratch1 cc0_scratch2) Q := by
  rw [k0_part1_eq_skeleton]; unfold k0_part1_skel
  refine device_step c ?_
  refine sig_step m ρ K c 0 (otherW_iff c 0) k0_dev1_eq ?_
  refine sig_step m ρ K c 1 (otherW_iff c 1) k0_dev2_eq ?_
  refine sig_step m ρ K c 2 (otherW_iff c 2) k0_dev3_eq ?_
  refine sig_step m ρ K c 3 (otherW_iff c 3) k0_dev4_eq ?_
  refine sig_step m ρ K c 4 (otherW_iff c 4) k0_dev5_eq ?_
  refine sig_step m ρ K c 5 (otherW_iff c 5) k0_dev6_eq ?_
  refine sig_step m ρ K c 6 (otherW_iff c 6) k0_dev7_eq ?_
  refine sig_step m ρ K c 7 (otherW_iff c 7) k0_dev8_eq ?_
  exact ret_step c h

set_option maxHeartbeats 0 in
/-- Signals 8 to 17. -/
theorem part2_ok {R : sProp (MT nD τ sig Unit (Elt F) ℕ UU ℕ)} {Q : _ → sProp (MT nD τ sig Unit (Elt F) ℕ UU ℕ)} (h : iprop(R ∗ SigSt m ρ K c 18) ⊢ Q ⟨⟩) :
    iprop(R ∗ SigSt m ρ K c 8)
      ⊢ WP c (k0_part2 (F := F) xM h0 oM h1 rM h2 cc0_scratch1 cc0_scratch2 c (meW c) barSems) Q := by
  rw [k0_part2_eq_skeleton]; unfold k0_part2_skel
  refine sig_step m ρ K c 8 (otherW_iff c 8) k0_dev9_eq ?_
  refine sig_step m ρ K c 9 (otherW_iff c 9) k0_dev10_eq ?_
  refine sig_step m ρ K c 10 (otherW_iff c 10) k0_dev11_eq ?_
  refine sig_step m ρ K c 11 (otherW_iff c 11) k0_dev12_eq ?_
  refine sig_step m ρ K c 12 (otherW_iff c 12) k0_dev13_eq ?_
  refine sig_step m ρ K c 13 (otherW_iff c 13) k0_dev14_eq ?_
  refine sig_step m ρ K c 14 (otherW_iff c 14) k0_dev15_eq ?_
  refine sig_step m ρ K c 15 (otherW_iff c 15) k0_dev16_eq ?_
  refine sig_step m ρ K c 16 (otherW_iff c 16) k0_dev17_eq ?_
  refine sig_step m ρ K c 17 (otherW_iff c 17) k0_dev18_eq ?_
  exact ret_step c h

set_option maxHeartbeats 0 in
/-- Signals 18 to 27. -/
theorem part3_ok {R : sProp (MT nD τ sig Unit (Elt F) ℕ UU ℕ)} {Q : _ → sProp (MT nD τ sig Unit (Elt F) ℕ UU ℕ)} (h : iprop(R ∗ SigSt m ρ K c 28) ⊢ Q ⟨⟩) :
    iprop(R ∗ SigSt m ρ K c 18)
      ⊢ WP c (k0_part3 (F := F) xM h0 oM h1 rM h2 cc0_scratch1 cc0_scratch2 c (meW c) barSems) Q := by
  rw [k0_part3_eq_skeleton]; unfold k0_part3_skel
  refine sig_step m ρ K c 18 (otherW_iff c 18) k0_dev19_eq ?_
  refine sig_step m ρ K c 19 (otherW_iff c 19) k0_dev20_eq ?_
  refine sig_step m ρ K c 20 (otherW_iff c 20) k0_dev21_eq ?_
  refine sig_step m ρ K c 21 (otherW_iff c 21) k0_dev22_eq ?_
  refine sig_step m ρ K c 22 (otherW_iff c 22) k0_dev23_eq ?_
  refine sig_step m ρ K c 23 (otherW_iff c 23) k0_dev24_eq ?_
  refine sig_step m ρ K c 24 (otherW_iff c 24) k0_dev25_eq ?_
  refine sig_step m ρ K c 25 (otherW_iff c 25) k0_dev26_eq ?_
  refine sig_step m ρ K c 26 (otherW_iff c 26) k0_dev27_eq ?_
  refine sig_step m ρ K c 27 (otherW_iff c 27) k0_dev28_eq ?_
  exact ret_step c h

set_option maxHeartbeats 0 in
/-- Signals 28 to 31, the barrier wait, and the load of the block, of which the product is taken. -/
theorem part4_ok {R : sProp (MT nD τ sig Unit (Elt F) ℕ UU ℕ)} {Q : _ → sProp (MT nD τ sig Unit (Elt F) ℕ UU ℕ)} (h : iprop((R ∗ xPts m ρ c ∗ records m ρ K ∗ semVal (barCell c) 0 ∗ (∃ W, owes (c : Thread nD τ) (owedRows c 0) W)
      ∗ bigSep (Finset.univ.erase c) fun d => barPay c d) ∗ barPay c c) ⊢ Q ⟨k0_pay2 (xstg m ρ c), k0_pay3 (xstg m ρ c)⟩) :
    iprop((((R ∗ barPay c c) ∗ xPts m ρ c) ∗ cred (tallyAt (barCell c) () 31) ∗ atPos ER (barCell c) 0 ∅ 0 ∗ levAts L lv) ∗ SigSt m ρ K c 28)
      ⊢ WP c (k0_part4 (F := F) xM h0 oM h1 rM h2 cc0_scratch1 cc0_scratch2 c (meW c) barSems) Q := by
  rw [k0_part4_eq_skeleton]; unfold k0_part4_skel
  refine sig_step m ρ K c 28 (otherW_iff c 28) k0_dev29_eq ?_
  refine sig_step m ρ K c 29 (otherW_iff c 29) k0_dev30_eq ?_
  refine sig_step m ρ K c 30 (otherW_iff c 30) k0_dev31_eq ?_
  refine sig_step m ρ K c 31 (otherW_iff c 31) k0_dev32_eq ?_
  refine bar_wait m ρ c K ?_
  refine BIBase.Entails.trans ?_ (x_load m ρ c (R := iprop((R ∗ records m ρ K ∗ semVal (barCell c) 0 ∗ (∃ W, owes (c : Thread nD τ) (owedRows c 0) W)
      ∗ bigSep (Finset.univ.erase c) fun d => barPay c d) ∗ barPay c c)) ?_)
  · iintro ⟨⟨⟨HR, Hown⟩, Hx⟩, Hrec, Hz, HO, Hp⟩
    isplitr [Hx]
    · isplitr [Hown]
      · isplitl [HR]; · iexact HR
        isplitl [Hrec]; · iexact Hrec
        isplitl [Hz]; · iexact Hz
        isplitl [HO] <;> iassumption
      iexact Hown
    iexact Hx
  refine BIBase.Entails.trans ?_ (own_load c (R := iprop(R ∗ xPts m ρ c ∗ records m ρ K ∗ semVal (barCell c) 0 ∗ (∃ W, owes (c : Thread nD τ) (owedRows c 0) W)
      ∗ bigSep (Finset.univ.erase c) fun d => barPay c d)) (k0_off1_eq c) fun _ => ret_step c h)
  iintro ⟨⟨⟨HR, Hrest⟩, Hown⟩, Hx⟩
  isplitr [Hown]
  · isplitl [HR]; · iexact HR
    isplitl [Hx] <;> iassumption
  iexact Hown

end Cert.PrefixProof

end
-- ==== Proof.Transfers.lean ====
/-
# The parts that transfer

The next four parts store the device's product into its own row and start the 32 conditional transfers of that row.
-/
module

public import proofs.«01_k».proof.Proof.Signals

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 64) → ℕ) (c : Dev nD)
variable (h0 : xM.IsWhole) (h1 : oM.IsWhole) (h2 : rM.IsWhole)

set_option maxHeartbeats 0 in
/-- The store of the product into the own row, and transfers 0 to 7. -/
theorem part5_ok {R : sProp (MT nD τ sig Unit (Elt F) ℕ UU ℕ)} {Q : _ → sProp (MT nD τ sig Unit (Elt F) ℕ UU ℕ)} (h : ∀ v, iprop((R ∗ rowPts c c (leafAt c) (commBuf m ρ)) ∗ SendSt m ρ K c 8) ⊢ Q v) :
    iprop((R ∗ records m ρ K ∗ (∃ W, owes (c : Thread nD τ) (owedRows c 0) W) ∗ (bigSep (Finset.univ.erase c) fun d => barPay c d) ∗ sendToks c) ∗ barPay c c)
      ⊢ WP c (k0_part5 (F := F) xM h0 oM h1 rM h2 cc0_scratch1 cc0_scratch2 c (meW c) (k0_pay3 (xstg m ρ c))) Q := by
  rw [k0_part5_eq_skeleton]; unfold k0_part5_skel
  refine own_store m ρ c (k0_off1_eq c) rfl ?_
  refine BIBase.Entails.trans (Q := iprop((R ∗ rowPts c c (leafAt c) (commBuf m ρ)) ∗ SendSt m ρ K c 0)) ?_ ?_
  · have e := sends_ready m ρ K c
    iintro ⟨⟨HR, Hs⟩, Hrow⟩
    ihave H := e $$ [Hs Hrow]
    · isplitl [Hs] <;> iassumption
    icases H with ⟨Hl, Hs⟩
    isplitr [Hs]
    · isplitl [HR] <;> iassumption
    iexact Hs
  refine send_step m ρ K c 0 (otherW_iff c 0) k0_dev33_eq (send_sem 0) (fun _ => recv_sem_of (k0_off2_eq c) _) (k0_off3_eq c) ?_
  refine send_step m ρ K c 1 (otherW_iff c 1) k0_dev34_eq (send_sem 1) (fun _ => recv_sem_of (k0_off4_eq c) _) (k0_off5_eq c) ?_
  refine send_step m ρ K c 2 (otherW_iff c 2) k0_dev35_eq (send_sem 2) (fun _ => recv_sem_of (k0_off6_eq c) _) (k0_off7_eq c) ?_
  refine send_step m ρ K c 3 (otherW_iff c 3) k0_dev36_eq (send_sem 3) (fun _ => recv_sem_of (k0_off8_eq c) _) (k0_off9_eq c) ?_
  refine send_step m ρ K c 4 (otherW_iff c 4) k0_dev37_eq (send_sem 4) (fun _ => recv_sem_of (k0_off10_eq c) _) (k0_off11_eq c) ?_
  refine send_step m ρ K c 5 (otherW_iff c 5) k0_dev38_eq (send_sem 5) (fun _ => recv_sem_of (k0_off12_eq c) _) (k0_off13_eq c) ?_
  refine send_step m ρ K c 6 (otherW_iff c 6) k0_dev39_eq (send_sem 6) (fun _ => recv_sem_of (k0_off14_eq c) _) (k0_off15_eq c) ?_
  refine send_step m ρ K c 7 (otherW_iff c 7) k0_dev40_eq (send_sem 7) (fun _ => recv_sem_of (k0_off16_eq c) _) (k0_off17_eq c) ?_
  exact ret_step c (h _)

set_option maxHeartbeats 0 in
/-- Transfers 8 to 15. -/
theorem part6_ok {R : sProp (MT nD τ sig Unit (Elt F) ℕ UU ℕ)} {Q : _ → sProp (MT nD τ sig Unit (Elt F) ℕ UU ℕ)} (b : BitVec 1) (h : iprop(R ∗ SendSt m ρ K c 16) ⊢ Q ⟨⟩) :
    iprop(R ∗ SendSt m ρ K c 8)
      ⊢ WP c (k0_part6 (F := F) xM h0 oM h1 rM h2 cc0_scratch1 cc0_scratch2 c (meW c) b) Q := by
  rw [k0_part6_eq_skeleton]; unfold k0_part6_skel
  refine send_step m ρ K c 8 (otherW_iff c 8) k0_dev41_eq (send_sem 8) (fun _ => recv_sem_of (k0_off18_eq c) _) (k0_off19_eq c) ?_
  refine send_step m ρ K c 9 (otherW_iff c 9) k0_dev42_eq (send_sem 9) (fun _ => recv_sem_of (k0_off20_eq c) _) (k0_off21_eq c) ?_
  refine send_step m ρ K c 10 (otherW_iff c 10) k0_dev43_eq (send_sem 10) (fun _ => recv_sem_of (k0_off22_eq c) _) (k0_off23_eq c) ?_
  refine send_step m ρ K c 11 (otherW_iff c 11) k0_dev44_eq (send_sem 11) (fun _ => recv_sem_of (k0_off24_eq c) _) (k0_off25_eq c) ?_
  refine send_step m ρ K c 12 (otherW_iff c 12) k0_dev45_eq (send_sem 12) (fun _ => recv_sem_of (k0_off26_eq c) _) (k0_off27_eq c) ?_
  refine send_step m ρ K c 13 (otherW_iff c 13) k0_dev46_eq (send_sem 13) (fun _ => recv_sem_of (k0_off28_eq c) _) (k0_off29_eq c) ?_
  refine send_step m ρ K c 14 (otherW_iff c 14) k0_dev47_eq (send_sem 14) (fun _ => recv_sem_of (k0_off30_eq c) _) (k0_off31_eq c) ?_
  refine send_step m ρ K c 15 (otherW_iff c 15) k0_dev48_eq (send_sem 15) (fun _ => recv_sem_of (k0_off32_eq c) _) (k0_off33_eq c) ?_
  exact ret_step c h

set_option maxHeartbeats 0 in
/-- Transfers 16 to 24. -/
theorem part7_ok {R : sProp (MT nD τ sig Unit (Elt F) ℕ UU ℕ)} {Q : _ → sProp (MT nD τ sig Unit (Elt F) ℕ UU ℕ)} (h : ∀ v, iprop(R ∗ SendSt m ρ K c 25) ⊢ Q v) :
    iprop(R ∗ SendSt m ρ K c 16)
      ⊢ WP c (k0_part7 (F := F) xM h0 oM h1 rM h2 cc0_scratch1 cc0_scratch2 c (meW c)) Q := by
  rw [k0_part7_eq_skeleton]; unfold k0_part7_skel
  refine send_step m ρ K c 16 (otherW_iff c 16) k0_dev49_eq (send_sem 16) (fun _ => recv_sem_of (k0_off34_eq c) _) (k0_off35_eq c) ?_
  refine send_step m ρ K c 17 (otherW_iff c 17) k0_dev50_eq (send_sem 17) (fun _ => recv_sem_of (k0_off36_eq c) _) (k0_off37_eq c) ?_
  refine send_step m ρ K c 18 (otherW_iff c 18) k0_dev51_eq (send_sem 18) (fun _ => recv_sem_of (k0_off38_eq c) _) (k0_off39_eq c) ?_
  refine send_step m ρ K c 19 (otherW_iff c 19) k0_dev52_eq (send_sem 19) (fun _ => recv_sem_of (k0_off40_eq c) _) (k0_off41_eq c) ?_
  refine send_step m ρ K c 20 (otherW_iff c 20) k0_dev53_eq (send_sem 20) (fun _ => recv_sem_of (k0_off42_eq c) _) (k0_off43_eq c) ?_
  refine send_step m ρ K c 21 (otherW_iff c 21) k0_dev54_eq (send_sem 21) (fun _ => recv_sem_of (k0_off44_eq c) _) (k0_off45_eq c) ?_
  refine send_step m ρ K c 22 (otherW_iff c 22) k0_dev55_eq (send_sem 22) (fun _ => recv_sem_of (k0_off46_eq c) _) (k0_off47_eq c) ?_
  refine send_step m ρ K c 23 (otherW_iff c 23) k0_dev56_eq (send_sem 23) (fun _ => recv_sem_of (k0_off48_eq c) _) (k0_off49_eq c) ?_
  refine send_step m ρ K c 24 (otherW_iff c 24) k0_dev57_eq (send_sem 24) (fun _ => recv_sem_of (k0_off50_eq c) _) (k0_off51_eq c) ?_
  exact ret_step c (h _)

set_option maxHeartbeats 0 in
/-- Transfers 25 to 31, and the first steps of the scan. -/
theorem part8_ok {R : sProp (MT nD τ sig Unit (Elt F) ℕ UU ℕ)} {Q : _ → sProp (MT nD τ sig Unit (Elt F) ℕ UU ℕ)} (v101 : FVec F S1024x512 .f32) (w : BitVec 32) (h : iprop(R ∗ SendSt m ρ K c 32) ⊢ Q ⟨k0_pay5 v101, k0_pay6 v101⟩) :
    iprop(R ∗ SendSt m ρ K c 25)
      ⊢ WP c (k0_part8 (F := F) xM h0 oM h1 rM h2 cc0_scratch1 cc0_scratch2 c (meW c) v101 w) Q := by
  rw [k0_part8_eq_skeleton]; unfold k0_part8_skel
  refine send_step m ρ K c 25 (otherW_iff c 25) k0_dev58_eq (send_sem 25) (fun _ => recv_sem_of (k0_off52_eq c) _) (k0_off53_eq c) ?_
  refine send_step m ρ K c 26 (otherW_iff c 26) k0_dev59_eq (send_sem 26) (fun _ => recv_sem_of (k0_off54_eq c) _) (k0_off55_eq c) ?_
  refine send_step m ρ K c 27 (otherW_iff c 27) k0_dev60_eq (send_sem 27) (fun _ => recv_sem_of (k0_off56_eq c) _) (k0_off57_eq c) ?_
  refine send_step m ρ K c 28 (otherW_iff c 28) k0_dev61_eq (send_sem 28) (fun _ => recv_sem_of (k0_off58_eq c) _) (k0_off59_eq c) ?_
  refine send_step m ρ K c 29 (otherW_iff c 29) k0_dev62_eq (send_sem 29) (fun _ => recv_sem_of (k0_off60_eq c) _) (k0_off61_eq c) ?_
  refine send_step m ρ K c 30 (otherW_iff c 30) k0_dev63_eq (send_sem 30) (fun _ => recv_sem_of (k0_off62_eq c) _) (k0_off63_eq c) ?_
  refine send_step m ρ K c 31 (otherW_iff c 31) k0_dev64_eq (send_sem 31) (fun _ => recv_sem_of (k0_off64_eq c) _) (k0_off65_eq c) ?_
  exact ret_step c h

end Cert.PrefixProof

end
-- ==== Proof.Combine.lean ====
/-
# The parts that wait and combine

The last parts wait for the rows of the others and for the own transfers, then load the 32 rows of the table and multiply
up those of the devices before this one.
-/
module

public import proofs.«01_k».proof.Proof.Signals

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 64) → ℕ) (c : Dev nD)
variable (h0 : xM.IsWhole) (h1 : oM.IsWhole) (h2 : rM.IsWhole)

set_option maxHeartbeats 0 in
/-- Waits 0 and 1, and the last steps of the scan. -/
theorem part9_ok {R : sProp (MT nD τ sig Unit (Elt F) ℕ UU ℕ)} {Q : _ → sProp (MT nD τ sig Unit (Elt F) ℕ UU ℕ)} (v239 v242 : FVec F S1024x512 .f32) (h : ∀ v, iprop(R ∗ WaitSt m ρ K c 2) ⊢ Q ⟨k0_pay7 v239 v242, v⟩) :
    iprop(R ∗ WaitSt m ρ K c 0)
      ⊢ WP c (k0_part9 (F := F) xM h0 oM h1 rM h2 cc0_scratch1 cc0_scratch2 c (meW c) v239 v242) Q := by
  rw [k0_part9_eq_skeleton]; unfold k0_part9_skel
  refine wait_step m ρ K c 0 (otherW_iff c 0) (recv_sem 0) (send_sem 0) ?_
  refine wait_step m ρ K c 1 (otherW_iff c 1) (recv_sem 1) (send_sem 1) ?_
  exact ret_step c (h _)

set_option maxHeartbeats 0 in
/-- Waits 2 to 8. -/
theorem part10_ok {R : sProp (MT nD τ sig Unit (Elt F) ℕ UU ℕ)} {Q : _ → sProp (MT nD τ sig Unit (Elt F) ℕ UU ℕ)} (w : BitVec 32) (h : ∀ v, iprop(R ∗ WaitSt m ρ K c 9) ⊢ Q v) :
    iprop(R ∗ WaitSt m ρ K c 2)
      ⊢ WP c (k0_part10 (F := F) xM h0 oM h1 rM h2 cc0_scratch1 cc0_scratch2 c (meW c) w) Q := by
  rw [k0_part10_eq_skeleton]; unfold k0_part10_skel
  refine wait_step m ρ K c 2 (otherW_iff c 2) (recv_sem 2) (send_sem 2) ?_
  refine wait_step m ρ K c 3 (otherW_iff c 3) (recv_sem 3) (send_sem 3) ?_
  refine wait_step m ρ K c 4 (otherW_iff c 4) (recv_sem 4) (send_sem 4) ?_
  refine wait_step m ρ K c 5 (otherW_iff c 5) (recv_sem 5) (send_sem 5) ?_
  refine wait_step m ρ K c 6 (otherW_iff c 6) (recv_sem 6) (send_sem 6) ?_
  refine wait_step m ρ K c 7 (otherW_iff c 7) (recv_sem 7) (send_sem 7) ?_
  refine wait_step m ρ K c 8 (otherW_iff c 8) (recv_sem 8) (send_sem 8) ?_
  exact ret_step c (h _)

set_option maxHeartbeats 0 in
/-- Waits 9 to 15. -/
theorem part11_ok {R : sProp (MT nD τ sig Unit (Elt F) ℕ UU ℕ)} {Q : _ → sProp (MT nD τ sig Unit (Elt F) ℕ UU ℕ)} (w : BitVec 32) (h : iprop(R ∗ WaitSt m ρ K c 16) ⊢ Q ⟨⟩) :
    iprop(R ∗ WaitSt m ρ K c 9)
      ⊢ WP c (k0_part11 (F := F) xM h0 oM h1 rM h2 cc0_scratch1 cc0_scratch2 c (meW c) w) Q := by
  rw [k0_part11_eq_skeleton]; unfold k0_part11_skel
  refine wait_step m ρ K c 9 (otherW_iff c 9) (recv_sem 9) (send_sem 9) ?_
  refine wait_step m ρ K c 10 (otherW_iff c 10) (recv_sem 10) (send_sem 10) ?_
  refine wait_step m ρ K c 11 (otherW_iff c 11) (recv_sem 11) (send_sem 11) ?_
  refine wait_step m ρ K c 12 (otherW_iff c 12) (recv_sem 12) (send_sem 12) ?_
  refine wait_step m ρ K c 13 (otherW_iff c 13) (recv_sem 13) (send_sem 13) ?_
  refine wait_step m ρ K c 14 (otherW_iff c 14) (recv_sem 14) (send_sem 14) ?_
  refine wait_step m ρ K c 15 (otherW_iff c 15) (recv_sem 15) (send_sem 15) ?_
  exact ret_step c h

set_option maxHeartbeats 0 in
/-- Waits 16 to 21. -/
theorem part12_ok {R : sProp (MT nD τ sig Unit (Elt F) ℕ UU ℕ)} {Q : _ → sProp (MT nD τ sig Unit (Elt F) ℕ UU ℕ)} (h : ∀ v, iprop(R ∗ WaitSt m ρ K c 22) ⊢ Q v) :
    iprop(R ∗ WaitSt m ρ K c 16)
      ⊢ WP c (k0_part12 (F := F) xM h0 oM h1 rM h2 cc0_scratch1 cc0_scratch2 c (meW c)) Q := by
  rw [k0_part12_eq_skeleton]; unfold k0_part12_skel
  refine wait_step m ρ K c 16 (otherW_iff c 16) (recv_sem 16) (send_sem 16) ?_
  refine wait_step m ρ K c 17 (otherW_iff c 17) (recv_sem 17) (send_sem 17) ?_
  refine wait_step m ρ K c 18 (otherW_iff c 18) (recv_sem 18) (send_sem 18) ?_
  refine wait_step m ρ K c 19 (otherW_iff c 19) (recv_sem 19) (send_sem 19) ?_
  refine wait_step m ρ K c 20 (otherW_iff c 20) (recv_sem 20) (send_sem 20) ?_
  refine wait_step m ρ K c 21 (otherW_iff c 21) (recv_sem 21) (send_sem 21) ?_
  exact ret_step c (h _)

set_option maxHeartbeats 0 in
/-- Waits 22 to 28. -/
theorem part13_ok {R : sProp (MT nD τ sig Unit (Elt F) ℕ UU ℕ)} {Q : _ → sProp (MT nD τ sig Unit (Elt F) ℕ UU ℕ)} (w : BitVec 32) (h : ∀ v, iprop(R ∗ WaitSt m ρ K c 29) ⊢ Q v) :
    iprop(R ∗ WaitSt m ρ K c 22)
      ⊢ WP c (k0_part13 (F := F) xM h0 oM h1 rM h2 cc0_scratch1 cc0_scratch2 c (meW c) w) Q := by
  rw [k0_part13_eq_skeleton]; unfold k0_part13_skel
  refine wait_step m ρ K c 22 (otherW_iff c 22) (recv_sem 22) (send_sem 22) ?_
  refine wait_step m ρ K c 23 (otherW_iff c 23) (recv_sem 23) (send_sem 23) ?_
  refine wait_step m ρ K c 24 (otherW_iff c 24) (recv_sem 24) (send_sem 24) ?_
  refine wait_step m ρ K c 25 (otherW_iff c 25) (recv_sem 25) (send_sem 25) ?_
  refine wait_step m ρ K c 26 (otherW_iff c 26) (recv_sem 26) (send_sem 26) ?_
  refine wait_step m ρ K c 27 (otherW_iff c 27) (recv_sem 27) (send_sem 27) ?_
  refine wait_step m ρ K c 28 (otherW_iff c 28) (recv_sem 28) (send_sem 28) ?_
  exact ret_step c (h _)

/-- The product of the rows of the devices before `c` among the first 3, -/
def e3 : FVec F S1x512 .f32 := k0_pay8 (meW c) (rowVal m ρ 0) (rowVal m ρ 1) (rowVal m ρ 2)
/-- the first 10, -/
def e10 : FVec F S1x512 .f32 :=
  k0_pay10 (meW c) (e3 m ρ c) (rowVal m ρ 3) (Scalar.cmpi .sgt (meW c) 3#32) (k0_pay9 (F := F))
    (rowVal m ρ 4) (rowVal m ρ 5) (rowVal m ρ 6) (rowVal m ρ 7) (rowVal m ρ 8) (rowVal m ρ 9)
/-- the first 17, -/
def e17 : FVec F S1x512 .f32 :=
  k0_pay11 (meW c) (e10 m ρ c) (rowVal m ρ 10) 10#32 (rowVal m ρ 11) (rowVal m ρ 12) (rowVal m ρ 13) (rowVal m ρ 14) (rowVal m ρ 15) (rowVal m ρ 16)
/-- the first 23, -/
def e23 : FVec F S1x512 .f32 :=
  k0_pay12 (meW c) (e17 m ρ c) (rowVal m ρ 17) (rowVal m ρ 18) (rowVal m ρ 19) (rowVal m ρ 20) (rowVal m ρ 21) (rowVal m ρ 22)
/-- and the first 30, as the kernel takes it. -/
def e30 : FVec F S1x512 .f32 :=
  k0_pay14 (meW c) (e23 m ρ c) (rowVal m ρ 23) (Scalar.cmpi .sgt (meW c) 23#32) (k0_pay13 (F := F))
    (rowVal m ρ 24) (rowVal m ρ 25) (rowVal m ρ 26) (rowVal m ρ 27) (rowVal m ρ 28) (rowVal m ρ 29)

set_option maxHeartbeats 0 in
/-- Waits 29 to 31, and the loads of rows 0 to 3. -/
theorem part14_ok {R : sProp (MT nD τ sig Unit (Elt F) ℕ UU ℕ)} {Q : _ → sProp (MT nD τ sig Unit (Elt F) ℕ UU ℕ)} (w : BitVec 32) (h : iprop((R ∗ (∃ W, owes (c : Thread nD τ) 0 W) ∗ ownZero c) ∗ tabPts m ρ c)
      ⊢ Q ⟨e3 m ρ c, rowVal m ρ 3, Scalar.cmpi .sgt (meW c) 3#32, k0_pay9 (F := F)⟩) :
    iprop(R ∗ WaitSt m ρ K c 29)
      ⊢ WP c (k0_part14 (F := F) xM h0 oM h1 rM h2 cc0_scratch1 cc0_scratch2 c (meW c) w) Q := by
  rw [k0_part14_eq_skeleton]; unfold k0_part14_skel
  refine wait_step m ρ K c 29 (otherW_iff c 29) (recv_sem 29) (send_sem 29) ?_
  refine wait_step m ρ K c 30 (otherW_iff c 30) (recv_sem 30) (send_sem 30) ?_
  refine wait_step m ρ K c 31 (otherW_iff c 31) (recv_sem 31) (send_sem 31) ?_
  refine after_waits m ρ c K ?_
  refine row_load m ρ c 0 ?_
  refine row_load m ρ c 1 ?_
  refine row_load m ρ c 2 ?_
  refine row_load m ρ c 3 ?_
  exact ret_step c h

set_option maxHeartbeats 0 in
/-- The loads of rows 4 to 10. -/
theorem part15_ok {R : sProp (MT nD τ sig Unit (Elt F) ℕ UU ℕ)} {Q : _ → sProp (MT nD τ sig Unit (Elt F) ℕ UU ℕ)} (h : iprop(R ∗ tabPts m ρ c) ⊢ Q ⟨e10 m ρ c, rowVal m ρ 10, 10#32⟩) :
    iprop(R ∗ tabPts m ρ c)
      ⊢ WP c (k0_part15 (F := F) xM h0 oM h1 rM h2 cc0_scratch1 cc0_scratch2 (meW c) (e3 m ρ c) (rowVal m ρ 3) (Scalar.cmpi .sgt (meW c) 3#32) (k0_pay9 (F := F))) Q := by
  rw [k0_part15_eq_skeleton]; unfold k0_part15_skel
  refine row_load m ρ c 4 ?_
  refine row_load m ρ c 5 ?_
  refine row_load m ρ c 6 ?_
  refine row_load m ρ c 7 ?_
  refine row_load m ρ c 8 ?_
  refine row_load m ρ c 9 ?_
  refine row_load m ρ c 10 ?_
  exact ret_step c h

set_option maxHeartbeats 0 in
/-- The loads of rows 11 to 16. -/
theorem part16_ok {R : sProp (MT nD τ sig Unit (Elt F) ℕ UU ℕ)} {Q : _ → sProp (MT nD τ sig Unit (Elt F) ℕ UU ℕ)} (h : iprop(R ∗ tabPts m ρ c) ⊢ Q (e17 m ρ c)) :
    iprop(R ∗ tabPts m ρ c)
      ⊢ WP c (k0_part16 (F := F) xM h0 oM h1 rM h2 cc0_scratch1 cc0_scratch2 (meW c) (e10 m ρ c) (rowVal m ρ 10) 10#32) Q := by
  rw [k0_part16_eq_skeleton]; unfold k0_part16_skel
  refine row_load m ρ c 11 ?_
  refine row_load m ρ c 12 ?_
  refine row_load m ρ c 13 ?_
  refine row_load m ρ c 14 ?_
  refine row_load m ρ c 15 ?_
  refine row_load m ρ c 16 ?_
  exact ret_step c h

set_option maxHeartbeats 0 in
/-- The loads of rows 17 to 23. -/
theorem part17_ok {R : sProp (MT nD τ sig Unit (Elt F) ℕ UU ℕ)} {Q : _ → sProp (MT nD τ sig Unit (Elt F) ℕ UU ℕ)} (h : iprop(R ∗ tabPts m ρ c) ⊢ Q ⟨e23 m ρ c, rowVal m ρ 23, Scalar.cmpi .sgt (meW c) 23#32, k0_pay13 (F := F)⟩) :
    iprop(R ∗ tabPts m ρ c)
      ⊢ WP c (k0_part17 (F := F) xM h0 oM h1 rM h2 cc0_scratch1 cc0_scratch2 (meW c) (e17 m ρ c)) Q := by
  rw [k0_part17_eq_skeleton]; unfold k0_part17_skel
  refine row_load m ρ c 17 ?_
  refine row_load m ρ c 18 ?_
  refine row_load m ρ c 19 ?_
  refine row_load m ρ c 20 ?_
  refine row_load m ρ c 21 ?_
  refine row_load m ρ c 22 ?_
  refine row_load m ρ c 23 ?_
  exact ret_step c h

set_option maxHeartbeats 0 in
/-- The loads of rows 24 to 30. -/
theorem part18_ok {R : sProp (MT nD τ sig Unit (Elt F) ℕ UU ℕ)} {Q : _ → sProp (MT nD τ sig Unit (Elt F) ℕ UU ℕ)} (h : iprop(R ∗ tabPts m ρ c) ⊢ Q ⟨e30 m ρ c, rowVal m ρ 30, 30#32⟩) :
    iprop(R ∗ tabPts m ρ c)
      ⊢ WP c (k0_part18 (F := F) xM h0 oM h1 rM h2 cc0_scratch1 cc0_scratch2 (meW c) (e23 m ρ c) (rowVal m ρ 23) (Scalar.cmpi .sgt (meW c) 23#32) (k0_pay13 (F := F))) Q := by
  rw [k0_part18_eq_skeleton]; unfold k0_part18_skel
  refine row_load m ρ c 24 ?_
  refine row_load m ρ c 25 ?_
  refine row_load m ρ c 26 ?_
  refine row_load m ρ c 27 ?_
  refine row_load m ρ c 28 ?_
  refine row_load m ρ c 29 ?_
  refine row_load m ρ c 30 ?_
  exact ret_step c h

end Cert.PrefixProof

end
-- ==== Proof.Body.lean ====
/-
# The body on one device

The parts in order, from what a device starts with to what it leaves: its staged block as it was, its result computed from
all the blocks, its table complete, and all its semaphores at zero.
-/
module

public import proofs.«01_k».proof.Proof.Transfers
public import proofs.«01_k».proof.Proof.Combine
public import proofs.«01_k».proof.Proof.Gen.KernelIdeal.Points

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The inclusive running product of device `c`'s block, as the kernel takes it. -/
def scanAt (c : Dev nD) : FVec F S1024x512 .f32 :=
  k0_pay7 (k0_pay5 (k0_pay2 (xstg m ρ c))) (k0_pay6 (k0_pay2 (xstg m ρ c)))

/-- What device `c` computes: that times the product of the blocks before its own. -/
def outAt (c : Dev nD) : (cc0_stg1_0 : Ref sig .tc).ty.Contents (Elt F) :=
  k0_pay1 (meW c) (scanAt m ρ c) (e30 m ρ c) (rowVal m ρ 30) 30#32 (rowVal m ρ 31)

/-- A device's two cells for itself, at zero. -/
def selfZero (c : Dev nD) : sProp 𝕄 := iprop(semVal (sendCell c c) 0 ∗ semVal (recvCell c c) 0)

set_option maxHeartbeats 0 in
/-- The parts in order. -/
theorem body_parts (K : Dev nD × Option (Fin 64) → ℕ) (c : Dev nD) (h0 : xM.IsWhole) (h1 : oM.IsWhole) (h2 : rM.IsWhole)
    {R : sProp (MT nD τ sig Unit (Elt F) ℕ UU ℕ)} {Q : PUnit → sProp (MT nD τ sig Unit (Elt F) ℕ UU ℕ)}
    (f : (cc0_stg1_0 : Ref sig .tc).ty.Contents (Elt F))
    (h : iprop((R ∗ xPts m ρ c ∗ semVal (barCell c) 0 ∗ (∃ W, owes (c : Thread nD τ) 0 W) ∗ ownZero c ∗ tabPts m ρ c) ∗ oPts c (outAt m ρ c))
      ⊢ Q ⟨⟩) :
    iprop(((((R ∗ sendToks c ∗ selfZero c ∗ waitToks c ∗ oPts c f) ∗ barPay c c) ∗ xPts m ρ c)
        ∗ cred (tallyAt (barCell c) () 31) ∗ atPos ER (barCell c) 0 ∅ 0 ∗ levAts L lv) ∗ SigSt m ρ K c 0)
      ⊢ WP c (cc0_body (F := F) xM h0 oM h1 rM h2 cc0_scratch1 cc0_scratch2) Q := by
  rw [cc0_body_eq_skeleton]; unfold cc0_body_skel
  refine bind_step c (part1_ok m ρ K c h0 h1 h2 ?_)
  refine bind_step c (part2_ok m ρ K c h0 h1 h2 ?_)
  refine bind_step c (part3_ok m ρ K c h0 h1 h2 ?_)
  refine bind_step c (part4_ok m ρ K c h0 h1 h2 ?_)
  refine bind_step c ?_
  refine BIBase.Entails.trans ?_ (part5_ok m ρ K c h0 h1 h2
    (R := iprop(R ∗ xPts m ρ c ∗ semVal (barCell c) 0 ∗ selfZero c ∗ waitToks c ∗ oPts c f)) fun _ => ?_)
  · iintro ⟨⟨⟨HR, Hst, Hz, Hw, Ho⟩, Hx, Hrec, Hb, HO, Hp⟩, Hown⟩
    isplitr [Hown]
    · isplitr [Hrec HO Hp Hst]
      · isplitl [HR]; · iexact HR
        isplitl [Hx]; · iexact Hx
        isplitl [Hb]; · iexact Hb
        isplitl [Hz]; · iexact Hz
        isplitl [Hw] <;> iassumption
      isplitl [Hrec]; · iexact Hrec
      isplitl [HO]; · iexact HO
      isplitl [Hp] <;> iassumption
    iexact Hown
  refine bind_step c (part6_ok m ρ K c h0 h1 h2 _ ?_)
  refine bind_step c (part7_ok m ρ K c h0 h1 h2 fun _ => ?_)
  refine bind_step c (part8_ok m ρ K c h0 h1 h2 _ _ ?_)
  refine bind_step c ?_
  refine BIBase.Entails.trans ?_ (part9_ok m ρ K c h0 h1 h2 (R := iprop(R ∗ xPts m ρ c ∗ semVal (barCell c) 0 ∗ oPts c f)) _ _ fun _ => ?_)
  · have e := waits_ready m ρ K c
    unfold selfZero
    iintro ⟨⟨⟨HR, Hx, Hb, ⟨Hz1, Hz2⟩, Hw, Ho⟩, Hl⟩, Hs⟩
    isplitr [Hz1 Hz2 Hw Hl Hs]
    · isplitl [HR]; · iexact HR
      isplitl [Hx]; · iexact Hx
      isplitl [Hb] <;> iassumption
    iapply e
    isplitr [Hs]
    · isplitl [Hl]; · iexact Hl
      isplitl [Hz1]; · iexact Hz1
      isplitl [Hz2] <;> iassumption
    iexact Hs
  refine bind_step c (part10_ok m ρ K c h0 h1 h2 _ fun _ => ?_)
  refine bind_step c (part11_ok m ρ K c h0 h1 h2 _ ?_)
  refine bind_step c (part12_ok m ρ K c h0 h1 h2 fun _ => ?_)
  refine bind_step c (part13_ok m ρ K c h0 h1 h2 _ fun _ => ?_)
  refine bind_step c (part14_ok m ρ K c h0 h1 h2 _ ?_)
  refine bind_step c (part15_ok m ρ c h0 h1 h2 ?_)
  refine bind_step c (part16_ok m ρ c h0 h1 h2 ?_)
  refine bind_step c (part17_ok m ρ c h0 h1 h2 ?_)
  refine bind_step c (part18_ok m ρ c h0 h1 h2 ?_)
  refine row_load m ρ c 31 ?_
  refine BIBase.Entails.trans ?_ (o_store c
    (R := iprop(R ∗ xPts m ρ c ∗ semVal (barCell c) 0 ∗ (∃ W, owes (c : Thread nD τ) 0 W) ∗ ownZero c ∗ tabPts m ρ c)) f (ret_step c h))
  iintro ⟨⟨⟨HR, Hx, Hb, Ho⟩, HO, Hz⟩, Ht⟩
  isplitr [Ho]
  · isplitl [HR]; · iexact HR
    isplitl [Hx]; · iexact Hx
    isplitl [Hb]; · iexact Hb
    isplitl [HO]; · iexact HO
    isplitl [Hz] <;> iassumption
  iexact Ho

/-! ## The pipeline's data, and its obligation for the body -/

/-- What a device knows and holds of the protocol at the start: the records, its positions, and the tokens of the duties it
    pays. -/
def ghost (K : Dev nD × Option (Fin 64) → ℕ) (c : Dev nD) : sProp 𝕄 :=
  iprop(records m ρ K ∗ atPos ER (barCell c) 0 ∅ 0
    ∗ (bigSep Finset.univ fun j : Dev nD => iprop(atPos ER (recvCell c j) 0 ∅ 0 ∗ atPos ER (sendCell c j) 0 ∅ 0))
    ∗ (bigSep Finset.univ fun j : Dev nD => dutyTok ER (barCell j) 0 c)
    ∗ bigSep Finset.univ fun j : Dev nD => iprop(dutyTok ER (sendCell c j) 0 j ∗ dutyTok ER (recvCell j c) 0 c))

/-- With it the tokens for its waits, and the levels. -/
def start (c : Dev nD) : sProp 𝕄 :=
  iprop((∃ K, ghost m ρ K c) ∗ cred (tallyAt (barCell c) () 31)
    ∗ (bigSep (Finset.univ.erase c) fun j => cred (tallyAt (recvCell c j) () N)) ∗ levAts L lv)

/-- Before the body: that, and the table at any contents. -/
def Φ₀ (c : Dev nD) : sProp 𝕄 := iprop(start m ρ c ∗ ∃ f, ((c : Thread nD τ).loc cc0_scratch0) ↦{fullShare} f)
/-- After it: the table complete, and every semaphore of the protocol at zero. -/
def Φ₁ (c : Dev nD) : sProp 𝕄 := iprop(tabPts m ρ c ∗ ownZero c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-- What the signals start from: row `j` of the table and the token for each other device, and row `c` kept. -/
theorem signals_ready (K : Dev nD × Option (Fin 64) → ℕ) (c : Dev nD) (f) :
    iprop(records m ρ K ∗ (∃ W, owes (c : Thread nD τ) (O₀ c) W) ∗ (((c : Thread nD τ).loc cc0_scratch0) ↦{fullShare} f)
        ∗ bigSep Finset.univ fun j : Dev nD => dutyTok ER (barCell j) 0 c)
      ⊢ iprop(barPay c c ∗ SigSt m ρ K c 0) := by
  have hrow : ∀ j ∈ (Finset.univ : Finset (Dev nD)).erase c, (rowPts c j fullShare f : sProp 𝕄) ⊢ barPay j c := fun j _ => by
    unfold barPay; iintro H; iexists f; iexact H
  have hrows : (bigSep (Finset.univ.erase c) fun j => (rowPts c j fullShare f : sProp 𝕄)) ⊢ bigSep (Finset.univ.erase c) fun j => barPay j c :=
    bigSep_mono hrow
  unfold SigSt
  rw [stage_start, table_rows, bigSep_univ_at (fun j : Dev nD => (rowPts c j fullShare f : sProp 𝕄)) c,
    bigSep_univ_at (fun j : Dev nD => (dutyTok ER (barCell j) 0 c : sProp 𝕄)) c]
  unfold sigPre
  rw [bigSep_own, bigSep_sep']
  iintro ⟨Hrec, HO, ⟨Hown, Hrows⟩, ⟨-, Htok⟩⟩
  isplitl [Hown]; · unfold barPay; iexists f; iexact Hown
  isplitl [Hrec]; · iexact Hrec
  isplitl [HO]; · iexact HO
  isplitr; · iempintro
  isplitl [Htok]; · iexact Htok
  iapply hrows; iexact Hrows

/-- What the body leaves is what the pipeline takes back. -/
theorem body_leaves (c : Dev nD) :
    iprop((emp ∗ xPts m ρ c ∗ semVal (barCell c) 0 ∗ (∃ W, owes (c : Thread nD τ) 0 W) ∗ ownZero c ∗ tabPts m ρ c) ∗ oPts c (outAt m ρ c))
        ⊢ bodyPost m ρ c := by
  unfold bodyPost Φ₁ Dat.owesAt Pipeline.owesWithin xPts oPts
  rw [show (dats m ρ 0 c).owed t0_0.succ = 0 from rfl]
  iintro ⟨⟨-, Hx, Hb, ⟨%W, HO⟩, Hz, Ht⟩, Ho⟩
  isplitl [Ht Hz Hb]
  · isplitl [Ht]; · iexact Ht
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The tokens of the waits, device by device. -/
theorem wait_toks (c : Dev nD) :
    iprop((bigSep (Finset.univ.erase c) fun j => cred (tallyAt (recvCell c j) () N))
        ∗ bigSep (Finset.univ.erase c) fun j : Dev nD => iprop(atPos ER (recvCell c j) 0 ∅ 0 ∗ atPos ER (sendCell c j) 0 ∅ 0))
      ⊢ (waitToks c : sProp 𝕄) := by
  unfold waitToks
  exact Entails.of_eq (bigSep_sep' _ _ _).symm

/-- The body from what the pipeline hands it to what the pipeline takes back. -/
theorem sound_body (c : Dev nD) (h0 : xM.IsWhole) (h1 : oM.IsWhole) (h2 : rM.IsWhole) :
    bodyPre m ρ c ⊢ WP c (cc0_body (F := F) xM h0 oM h1 rM h2 cc0_scratch1 cc0_scratch2) (fun _ => bodyPost m ρ c) := by
  unfold bodyPre Φ₀ start
  iintro ⟨⟨⟨⟨%K, Hg⟩, HcB, HcV, #Hlev⟩, ⟨%fr, Hscr⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  unfold ghost
  rw [bigSep_univ_at (fun j : Dev nD => iprop(atPos ER (recvCell c j) 0 ∅ 0 ∗ atPos ER (sendCell c j) 0 ∅ 0 : sProp 𝕄)) c,
    bigSep_univ_at (fun j : Dev nD => iprop(dutyTok ER (sendCell c j) 0 j ∗ dutyTok ER (recvCell j c) 0 c : sProp 𝕄)) c]
  icases Hg with ⟨#Hrec, HatB, ⟨⟨HaR, HaS⟩, Hat⟩, HtB, ⟨-, Hts⟩⟩
  imod (own_close m ρ K c) $$ [HaR HaS] with Hz
  · isplitr; · iexact Hrec
    isplitl [HaS] <;> iassumption
  ihave Hs := (signals_ready m ρ K c fr) $$ [HO Hscr HtB]
  · isplitr; · iexact Hrec
    isplitl [HO]; · iexists W; iexact HO
    isplitl [Hscr] <;> iassumption
  icases Hs with ⟨Hown, Hsig⟩
  iapply (body_parts m ρ K c h0 h1 h2 (R := iprop(emp)) (Q := fun _ => bodyPost m ρ c) g1 (body_leaves m ρ c))
  · isplitr [Hsig]
    · isplitr [HcB HatB]
      · isplitr [Hx]
        · isplitr [Hown]
          · isplitr; · iempintro
            isplitl [Hts]; · unfold sendToks; iexact Hts
            isplitl [Hz]; · unfold selfZero; iexact Hz
            isplitr [Hout]
            · iapply (wait_toks (F := F) c)
              isplitl [HcV] <;> iassumption
            unfold oPts; iexact Hout
          iexact Hown
        unfold xPts; iexact Hx
      isplitl [HcB]; · iexact HcB
      isplitl [HatB]; · iexact HatB
      iexact Hlev
    iexact Hsig

set_option maxRecDepth 4000 in
/-- The library's obligation for the body. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  exact sound_body m ρ c (Memref.isWhole_whole _) (Memref.isWhole_whole _) (Memref.isWhole_whole _)

end Cert.PrefixProof

end
-- ==== Proof.Launch.lean ====
/-
# The launch

The launch mints one round of the protocol's cells and, for each pair of devices, three duty tokens: at the first's barrier
cell, send cell and receive cell for the second. The barrier and receive tokens go to the second device, which pays those
duties; the send tokens stay. What the devices owe together gives each device the 31 units it waits for on its barrier
cell and a row's credit at each of its receive cells but its own.
-/
module

public import proofs.«01_k».proof.Proof.Body
public import Idealize.ShloMosaic.Lib.Pipeline.CollectiveSegs

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Big separating conjunctions over the cells -/

/-- Over the barrier cell and the own cells: the barrier cell's part and the others'. -/
theorem bigSep_opt {K : Type} [Fintype K] [DecidableEq K] (Φ : Option K → sProp 𝕄) :
    bigSep Finset.univ Φ = iprop(Φ none ∗ bigSep Finset.univ fun k => Φ (some k)) := by
  have h : (Finset.univ : Finset (Option K)).erase none = Finset.univ.map Function.Embedding.some := by
    ext k; cases k <;> simp
  rw [bigSep_univ_at Φ none, h, bigSep_map]; rfl

/-- The own 64 are the 32 send semaphores and the 32 receive semaphores. -/
theorem bigSep_halves (Φ : Fin 64 → sProp 𝕄) :
    bigSep Finset.univ Φ = iprop((bigSep Finset.univ fun j : Dev nD => Φ (sendK j)) ∗ bigSep Finset.univ fun j : Dev nD => Φ (recvK j)) := by
  rw [bigSep_univ_equiv (finSumFinEquiv : Fin 32 ⊕ Fin 32 ≃ Fin (32 + 32)) Φ, bigSep_univ_sum]
  rfl

/-- What is known goes to every part. -/
theorem bigSep_know {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## The launch element -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  intro k k' h
  match k, k' with
  | none, none => rfl
  | none, some _ => exact absurd h (by simp [csem])
  | some _, none => exact absurd h (by simp [csem])
  | some k, some k' =>
    have h1 : ownQ k = ownQ k' := SemLoc.dma.inj h
    have h2 : 2 + k.val = 2 + k'.val := congrArg Fin.val h1
    exact congrArg some (Fin.ext (by omega))

theorem kcell_injective : Function.Injective (kcell : Dev nD × Option (Fin 64) → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- All the protocol's cells. -/
def allCells : Finset (GSem nD τ sig) := Finset.univ.map ⟨kcell, kcell_injective⟩

/-- The three semaphores of the pair (its first device, its second). -/
abbrev semAt (d : Dev nD) : Fin 3 → Option (Fin 64)
  | 0 => none | 1 => some (sendK d) | 2 => some (recvK d)

theorem semAt_injective (d : Dev nD) : Function.Injective (semAt d) := by revert d; decide +kernel

/-- The duty tokens: at each of the three cells of `c` for `d`, the duty `d`. -/
abbrev tokAt (x : Dev nD × Dev nD × Fin 3) : GSem nD τ sig × ℕ × Dev nD := (kcell (x.1, semAt x.2.1 x.2.2), 0, x.2.1)

theorem tokAt_injective : Function.Injective (tokAt : Dev nD × Dev nD × Fin 3 → GSem nD τ sig × ℕ × Dev nD) := by
  rintro ⟨c, d, k⟩ ⟨c', d', k'⟩ h
  have h1 : d = d' := congrArg (fun x : GSem nD τ sig × ℕ × Dev nD => x.2.2) h
  subst h1
  have h2 := kcell_injective (congrArg (fun x : GSem nD τ sig × ℕ × Dev nD => x.1) h)
  have h3 : c = c' := congrArg Prod.fst h2
  have h4 : k = k' := semAt_injective d (congrArg Prod.snd h2)
  subst h3 h4; rfl

def allToks : Finset (GSem nD τ sig × ℕ × Dev nD) := Finset.univ.map ⟨tokAt, tokAt_injective⟩

def u₀ : UU :=
  (initOf (Pipeline.cells cfgs cellOf_inj) (Pipeline.launchToks cfgs cellOf_inj), initOf allCells allToks)

/-- The duty tokens at device `c`'s cells. -/
def toks (c : Dev nD) : sProp 𝕄 :=
  bigSep Finset.univ fun d : Dev nD =>
    iprop(dutyTok ER (barCell c) 0 d ∗ dutyTok ER (sendCell c d) 0 d ∗ dutyTok ER (recvCell c d) 0 d)

/-- What the launch deals device `c`. -/
def G (c : Dev nD) : sProp 𝕄 :=
  iprop((bigSep Finset.univ fun k : Option (Fin 64) => roundState ER (prefixRd m ρ) (kcell (c, k)) 0)
    ∗ (bigSep Finset.univ fun k : Option (Fin 64) => iprop(atPos ER (kcell (c, k)) 0 ∅ 0 ∗ reached ER (kcell (c, k)) 0)) ∗ toks c)

/-- What all devices together make of it. -/
def G' (c : Dev nD) : sProp 𝕄 := iprop(∃ K, ghost m ρ K c)

theorem bigSep_three (Φ : Fin 3 → sProp 𝕄) : bigSep Finset.univ Φ = iprop(Φ 0 ∗ Φ 1 ∗ Φ 2) :=
  bigSep_univ_eq_bigSepL [0, 1, 2] (by decide) (by decide) Φ

/-- A part for each cell is a part for each device's each cell; -/
theorem over_cells (Φ : GSem nD τ sig → sProp 𝕄) :
    bigSep allCells Φ = bigSep Finset.univ fun c : Dev nD => bigSep Finset.univ fun k : Option (Fin 64) => Φ (kcell (c, k)) := by
  unfold allCells; rw [bigSep_map, bigSep_univ_prod]; rfl

/-- the tokens, device by device. -/
theorem over_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks; rw [bigSep_univ_prod]
  exact bigSep_congr fun d _ => bigSep_three _

/-- The launch element funds every device's deal. -/
theorem fund_all : BI.own (ER (initOf allCells allToks)) ⊢ (|==> bigSep Finset.univ (G m ρ) : sProp 𝕄) := by
  iintro HX
  imod (Rounds.fund ER (prefixRd m ρ) allCells allToks) $$ HX with ⟨Hst, Hr, Hat, Htok⟩
  imodintro
  ihave Hst' := (Entails.of_eq (over_cells fun g => roundState ER (prefixRd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The cells' invariants -/

/-- The kernel's own semaphores are the send and the receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Dev nD => semVal (sendCell c j) 0) ∗ bigSep Finset.univ fun j : Dev nD => semVal (recvCell c j) 0) := by
  unfold Pipeline.ownSems0; exact bigSep_halves _
/-- the barrier semaphore is the one that outlives the region. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- Together they are the protocol's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 64) => semVal (kcell (c, k)) 0 : sProp 𝕄) := by
  rw [unscopedSems0_eq, bigSep_opt]
  unfold Pipeline.ownSems0
  iintro ⟨HO, HB⟩
  isplitl [HB]; · iexact HB
  iexact HO

/-- A device's counters and round states make its cells' invariants. -/
theorem alloc_cells (c : Dev nD) :
    iprop((bigSep Finset.univ fun k : Option (Fin 64) => semVal (kcell (c, k)) 0)
        ∗ bigSep Finset.univ fun k : Option (Fin 64) => roundState ER (prefixRd m ρ) (kcell (c, k)) 0)
      ⊢ (|={Set.univ}=> bigSep Finset.univ fun k => iprop(∃ κ : ℕ, cellInv ER (prefixRd m ρ) κ (kcell (c, k))) : sProp 𝕄) := by
  rw [← bigSep_sep']
  exact (bigSep_mono fun k _ => (Rounds.body_intro ER (prefixRd m ρ) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (prefixRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (alloc_cells m ρ c) $$ [Hv Hst] with Hinv
  · isplitl [Hv] <;> iassumption
  imodintro
  isplitl [Hinv]; · iexact Hinv
  isplitl [Hat]; · iexact Hat
  iexact Htok

/-! ## Dealing the tokens -/

/-- The tokens of the duties device `c` pays. -/
def payToks (c : Dev nD) : sProp 𝕄 :=
  iprop((bigSep Finset.univ fun j : Dev nD => dutyTok ER (barCell j) 0 c)
    ∗ bigSep Finset.univ fun j : Dev nD => iprop(dutyTok ER (sendCell c j) 0 j ∗ dutyTok ER (recvCell j c) 0 c))

/-- The barrier and receive tokens cross over between each two devices. -/
theorem toks_dealt : (bigSep Finset.univ fun c : Dev nD => (toks c : sProp 𝕄)) ⊢ bigSep Finset.univ fun c : Dev nD => payToks c := by
  unfold toks payToks
  simp only [bigSep_sep']
  rw [BI.bigSep_univ_comm (fun c d : Dev nD => (dutyTok ER (barCell c) 0 d : sProp 𝕄)),
    BI.bigSep_univ_comm (fun c d : Dev nD => (dutyTok ER (recvCell c d) 0 d : sProp 𝕄))]

/-- What stays with device `c`: its positions, and the tokens of the duties it pays. -/
def linear (c : Dev nD) : sProp 𝕄 :=
  iprop((bigSep Finset.univ fun k : Option (Fin 64) => atPos ER (kcell (c, k)) 0 ∅ 0) ∗ payToks c)

theorem ghost_intro (K : Dev nD × Option (Fin 64) → ℕ) (c : Dev nD) : iprop(records m ρ K ∗ linear c) ⊢ G' m ρ c := by
  unfold linear payToks G' ghost
  rw [bigSep_opt, bigSep_halves, bigSep_sep' Finset.univ (fun j : Dev nD => (atPos ER (recvCell c j) 0 ∅ 0 : sProp 𝕄))]
  iintro ⟨#HR, ⟨HaB, HaS, HaV⟩, HtB, Ht⟩
  iexists K
  isplitr; · iexact HR
  isplitl [HaB]; · iexact HaB
  isplitl [HaS HaV]
  · isplitl [HaV] <;> iassumption
  isplitl [HtB]; · iexact HtB
  iexact Ht

/-- The positions and the tokens of a device, together. -/
theorem linear_all : iprop((bigSep Finset.univ fun c : Dev nD => bigSep Finset.univ fun k : Option (Fin 64) => (atPos ER (kcell (c, k)) 0 ∅ 0 : sProp 𝕄))
      ∗ bigSep Finset.univ fun c : Dev nD => payToks c) ⊢ bigSep Finset.univ fun c : Dev nD => (linear c : sProp 𝕄) := by
  unfold linear
  exact Entails.of_eq (bigSep_sep' _ _ _).symm

theorem regroup :
    (bigSep Finset.univ fun c : Dev nD => iprop((bigSep Finset.univ fun k => iprop(∃ κ : ℕ, cellInv ER (prefixRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 64) => iprop(∃ κ : ℕ, cellInv ER (prefixRd m ρ) κ (kcell ck))),
    bigSep_congr (s := Finset.univ) (fun (c : Dev nD) _ => bigSep_sep' Finset.univ (fun k : Option (Fin 64) => (atPos ER (kcell (c, k)) 0 ∅ 0 : sProp 𝕄)) (fun k => reached ER (kcell (c, k)) 0)),
    bigSep_sep', ← bigSep_univ_prod (fun ck : Dev nD × Option (Fin 64) => (reached ER (kcell ck) 0 : sProp 𝕄))]
  iintro ⟨HI, ⟨Hat, #HR⟩, Htok⟩
  ihave HK := (BI.bigSep_exists_pi Finset.univ (fun (ck : Dev nD × Option (Fin 64)) (κ : ℕ) => (cellInv ER (prefixRd m ρ) κ (kcell ck) : sProp 𝕄))) $$ HI
  icases HK with ⟨%K, #HI⟩
  ihave Htk := (toks_dealt (F := F)) $$ Htok
  iapply (bigSep_know (R := records m ρ K) fun c _ => ghost_intro m ρ K c)
  isplitr
  · unfold records; isplitl; · iexact HI
    iexact HR
  · iapply (linear_all (F := F))
    isplitl [Hat]; · iexact Hat
    iexact Htk

/-- All devices' semaphores and deals, at once, to every device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The tokens for the waits -/

theorem bar_eq_iff {a b : Dev nD} : barCell a = barCell b ↔ a = b :=
  ⟨fun h => congrArg (fun g : GSem nD τ sig => g.1.1) h, fun h => h ▸ rfl⟩
theorem recvQ_injective : Function.Injective recvQ := fun i j h => by
  have h2 : 2 + (32 + i.val) = 2 + (32 + j.val) := congrArg Fin.val h
  exact Fin.ext (by omega)
theorem recv_eq_iff {a b i j : Dev nD} : recvCell a i = recvCell b j ↔ a = b ∧ i = j :=
  ⟨fun h => ⟨congrArg (fun g : GSem nD τ sig => g.1.1) h, recvQ_injective (SemLoc.dma.inj (congrArg Prod.snd h))⟩, fun h => by rw [h.1, h.2]⟩

/-- Device `d` owes a unit to every other device's barrier cell, -/
theorem owed_bar (d c : Dev nD) : O₀ d (barCell c) () = if d ≠ c then 1 else 0 := by
  have h0 : owedRows d 0 (barCell c) () = 0 := by
    by_contra h
    obtain ⟨j, hj⟩ := owedRows_pos (Nat.pos_of_ne_zero h)
    exact absurd (congrArg Prod.snd hj) (by simp)
  unfold O₀
  rw [Pi.add_apply, Finsupp.add_apply, h0, Nat.zero_add]
  unfold owedBars owedBar
  rw [Finset.sum_apply, Finsupp.finset_sum_apply, Finset.sum_eq_single c]
  · by_cases h : d = c
    · rw [if_neg (fun h' => h'.1 h.symm), if_neg (fun h' => h' h)]; rfl
    · rw [if_pos ⟨fun h' => h h'.symm, Nat.zero_le _⟩, if_pos h, tallyAt_apply, if_pos ⟨rfl, rfl⟩]
  · intro j _ hj
    split
    · rw [tallyAt_apply, if_neg fun h' => hj (bar_eq_iff.mp h'.1).symm]
    · rfl
  · exact fun h => absurd (Finset.mem_univ _) h

/-- and a row to every other device's receive cell for it. -/
theorem owed_recv (d c j : Dev nD) (hj : j ≠ c) : O₀ d (recvCell c j) () = if d = j then N else 0 := by
  have h0 : owedBars d 0 (recvCell c j) () = 0 := by
    by_contra h
    obtain ⟨j', hj'⟩ := owedBars_pos (Nat.pos_of_ne_zero h)
    exact absurd (congrArg Prod.snd hj') (by simp)
  unfold O₀
  rw [Pi.add_apply, Finsupp.add_apply, h0, Nat.add_zero]
  unfold owedRows owedRow
  rw [Finset.sum_apply, Finsupp.finset_sum_apply, Finset.sum_eq_single c]
  · by_cases h : d = j
    · subst h
      rw [if_pos ⟨fun h' => hj h'.symm, Nat.zero_le _⟩, if_pos rfl, tallyAt_apply, if_pos ⟨rfl, rfl⟩]
    · rw [if_neg h]
      split
      · rw [tallyAt_apply, if_neg fun h' => h (recv_eq_iff.mp h'.1).2.symm]
      · rfl
  · intro j' _ hj'
    split
    · rw [tallyAt_apply, if_neg fun h' => hj' (recv_eq_iff.mp h'.1).1.symm]
    · rfl
  · exact fun h => absurd (Finset.mem_univ _) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj,
    Finset.sum_ite_eq' Finset.univ j fun _ => N, if_pos (Finset.mem_univ _)]

/-- So the launch gives each device the 31 units of its barrier wait and a row's credit at each receive cell but its own. -/
theorem creds (c : Dev nD) :
    (Pipeline.launchCred O₀ c : sProp 𝕄)
      ⊢ iprop(cred (tallyAt (barCell c) () 31) ∗ bigSep (Finset.univ.erase c) fun j => cred (tallyAt (recvCell c j) () N)) := by
  unfold Pipeline.launchCred
  rw [bigSep_univ_at _ (SemLoc.reg barS), launch_bar]
  refine sep_mono_right ?_
  have hsub : (Finset.univ.erase c).map ⟨fun j : Dev nD => (SemLoc.dma (recvQ j) : SemLoc sig), fun i j h => recvQ_injective (SemLoc.dma.inj h)⟩
      ⊆ Finset.univ.erase (SemLoc.reg barS) := by
    intro s hs
    obtain ⟨j, -, rfl⟩ := Finset.mem_map.mp hs
    exact Finset.mem_erase.mpr ⟨by simp, Finset.mem_univ _⟩
  refine (bigSep_subset hsub).trans ?_
  rw [bigSep_map]
  exact Entails.of_eq (bigSep_congr fun j hj => congrArg cred (launch_recv c j (Finset.mem_erase.mp hj).1))

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ ownZero tabPts
  rw [bigSep_sep']
  iintro ⟨Hr, Hz, HzB⟩
  isplitl [HzB]; · iexact HzB
  isplitl [Hz]; · iexact Hz
  iexists (commBuf m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What each array of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all counters at zero, every weakly fair execution of the program on all
    devices ends, with every device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.PrefixProof

end
-- ==== Proof.SameText.lean ====
/-
# One text, two programs

The kernel and its idealization have the same text, so the run of one is the run of the other.
-/
module

public import proofs.«01_k».proof.Defs
public import proofs.«01_k».proof.Proof.Gen.Kernel
public import proofs.«01_k».proof.Proof.Launch

@[expose] public section

noncomputable section

namespace Cert.PrefixProof

open Idealize.ShloMosaic Idealize.ShloMosaic.TcCoe Idealize.SL.Sem

variable {F : FTy → Type} [FloatOps F]

/-- The two kernels' functions are one. -/
theorem same_kernels : Cert.Kernel.defs₀ (F := F) = Cert.KernelIdeal.defs₀ (F := F) :=
  congrArg Defs.onTc (funext fun l => funext fun a => by
    match l, a with
    | 0, (t, s) => rfl
    | ⟨n + 1, h⟩, _ => exact absurd h (Nat.not_lt.2 (Nat.le_add_left _ _)))

/-- So are the programs' functions. -/
theorem same_defs : Cert.Kernel.defs (F := F) = Cert.KernelIdeal.defs (F := F) :=
  congrArg (Pipeline.defs Cert.KernelIdeal.pcfgs) same_kernels

/-- The kernel's run, from its idealization's. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => QC m ρ r ∧ r.2.sem = fun _ => 0) := by
  rw [same_defs]
  exact run_main m ρ

end Cert.PrefixProof

end
-- ==== Proof.Products.lean ====
/-
# Products of extended reals, and the kernel's ways of taking them

Two ways of taking products over rows, over the extended reals. A column of `2 a` rows is halved by multiplying its upper
half into its lower half, which keeps the product over all rows. A running product is taken by doubling windows: an array
whose row `r` is the product of the `s` rows ending at `r` (or of all of them, where there are fewer), multiplied by itself
moved down `s` rows with ones above, holds the products of windows of `2 s` rows.
-/
module

public import Idealize.ShloMosaic.Lib.ValueIdx
public import Idealize.ShloMosaic.Lib.IdealHost
public import Idealize.ShloMosaic.Lib.Pipeline.Value

@[expose] public section

noncomputable section

namespace Cert.PrefixProof

open Idealize.ShloMosaic Idealize.ShloMosaic.ValueIdx

/-- The scalar one, as the programs write it. -/
abbrev oneF : Ideal .f32 := Scalar.ofBits .f32 0x3F800000#32

theorem oneF_eq : (oneF : EReal) = 1 := Ideal.ofBits_one_f32

/-- Column `j` of an array, as a function of any natural number: one past the last row. -/
def col {n : ℕ} (v : FVec Ideal ⟨2, ![n, 512]⟩ .f32) (j : Fin 512) (r : ℕ) : EReal :=
  if h : r < n then v (ix2 ⟨r, h⟩ j) else 1

theorem col_of_lt {n : ℕ} (v : FVec Ideal ⟨2, ![n, 512]⟩ .f32) (j : Fin 512) {r : ℕ} (h : r < n) :
    col v j r = v (ix2 ⟨r, h⟩ j) := dif_pos h

/-! ## Halving -/

/-- Halving a column keeps its product. -/
theorem halve {a b : ℕ} (hab : b = a + a) (v : FVec Ideal ⟨2, ![b, 512]⟩ .f32)
    (h0 : Shape.Slices ⟨2, ![b, 512]⟩ ![0, 0] ⟨2, ![a, 512]⟩) (h1 : Shape.Slices ⟨2, ![b, 512]⟩ ![a, 0] ⟨2, ![a, 512]⟩)
    (j : Fin 512) {P : EReal} (hP : (∏ r : Fin b, (v (ix2 r j) : EReal)) = P) :
    (∏ r : Fin a, (mulf (extractStridedSlice ⟨2, ![a, 512]⟩ ![0, 0] v h0) (extractStridedSlice ⟨2, ![a, 512]⟩ ![a, 0] v h1) (ix2 r j) : EReal)) = P := by
  subst hab
  rw [← hP, Fin.prod_univ_add, ← Finset.prod_mul_distrib]
  refine Finset.prod_congr rfl fun r _ => ?_
  rw [mulf_apply, extractStridedSlice_apply ![0, 0] v h0 (ix2 r j) (ix2 (Fin.castAdd a r) j),
    extractStridedSlice_apply ![a, 0] v h1 (ix2 r j) (ix2 (Fin.natAdd a r) j)]
  · intro k; fin_cases k
    · exact rfl
    · exact (Nat.zero_add _).symm
  · intro k; fin_cases k <;> exact (Nat.zero_add _).symm

/-! ## Doubling windows -/

/-- Row `r` of `v` is the product of the `s` entries of `X` ending at `r`, or of all of them where there are fewer. -/
def Windows {n : ℕ} (X : ℕ → EReal) (j : Fin 512) (s : ℕ) (v : FVec Ideal ⟨2, ![n, 512]⟩ .f32) : Prop :=
  ∀ r : Fin n, v (ix2 r j) = ∏ i ∈ Finset.Ico (r.val + 1 - s) (r.val + 1), X i

/-- Windows of one row are the array itself. -/
theorem Windows.one {n : ℕ} (v : FVec Ideal ⟨2, ![n, 512]⟩ .f32) (j : Fin 512) : Windows (col v j) j 1 v := fun r => by
  rw [Nat.add_sub_cancel, Nat.Ico_succ_singleton, Finset.prod_singleton, col_of_lt v j r.isLt]

/-- One step doubles the windows. -/
theorem Windows.double {s k n : ℕ} (hn : n = s + k) {X : ℕ → EReal} {j : Fin 512} {v : FVec Ideal ⟨2, ![n, 512]⟩ .f32}
    (hs : Shape.Slices ⟨2, ![n, 512]⟩ ![0, 0] ⟨2, ![k, 512]⟩)
    (hc : Shape.Concatenates [⟨2, ![s, 512]⟩, ⟨2, ![k, 512]⟩] ⟨2, ![n, 512]⟩ 0) (h : Windows X j s v) :
    Windows X j (s + s) (mulf v (concatenate ⟨2, ![n, 512]⟩ 0
      [⟨⟨2, ![s, 512]⟩, broadcast ⟨2, ![s, 512]⟩ oneF⟩, ⟨⟨2, ![k, 512]⟩, extractStridedSlice ⟨2, ![k, 512]⟩ ![0, 0] v hs⟩] hc)) := fun r => by
  rw [mulf_apply, h r]
  by_cases hr : r.val < s
  · rw [concatenate_pair_apply_left 0 _ _ hc (ix2 r j) rfl (ix2 ⟨r.val, hr⟩ j) (fun b => by fin_cases b <;> rfl)]
    rw [show (broadcast ⟨2, ![s, 512]⟩ oneF (ix2 ⟨r.val, hr⟩ j) : EReal) = 1 from oneF_eq, mul_one,
      Nat.sub_eq_zero_of_le (show r.val + 1 ≤ s by omega), Nat.sub_eq_zero_of_le (show r.val + 1 ≤ s + s by omega)]
  · have hk : r.val - s < k := by have := r.isLt; omega
    have hkn : r.val - s < n := by omega
    rw [concatenate_pair_apply_right 0 _ _ hc (ix2 r j) rfl rfl (ix2 ⟨r.val - s, hk⟩ j)
      (fun b hb => by fin_cases b <;> first | exact absurd rfl hb | rfl)
      (show r.val - s + s = r.val by omega),
      extractStridedSlice_apply ![0, 0] v hs _ (ix2 ⟨r.val - s, hkn⟩ j) (fun a => by fin_cases a <;> simp), h ⟨r.val - s, hkn⟩,
      mul_comm]
    show (∏ i ∈ Finset.Ico (r.val - s + 1 - s) (r.val - s + 1), X i) * _ = _
    rw [show r.val - s + 1 - s = r.val + 1 - (s + s) by omega, show r.val - s + 1 = r.val + 1 - s by omega]
    exact Finset.prod_Ico_consecutive X (by omega) (by omega)

/-! ## Blocks -/

/-- The product over `1024 c` rows is the product of the products over `c` blocks of 1024. -/
theorem prod_blocks (X : ℕ → EReal) (c : ℕ) :
    (∏ k ∈ Finset.range c, ∏ i ∈ Finset.range 1024, X (1024 * k + i)) = ∏ i ∈ Finset.range (1024 * c), X i := by
  induction c with
  | zero => simp
  | succ c ih => rw [Finset.prod_range_succ, ih, Nat.mul_succ, Finset.prod_range_add]

/-- Of 32 factors, those before `c`, with ones for the others, multiply to the product of the first `c`. -/
theorem prod_before (B : ℕ → EReal) {c : ℕ} (hc : c ≤ 32) :
    (∏ k ∈ Finset.range 32, if k < c then B k else 1) = ∏ k ∈ Finset.range c, B k := by
  rw [Finset.prod_ite, Finset.prod_const_one, mul_one]
  refine Finset.prod_congr (Finset.ext fun k => ?_) fun _ _ => rfl
  rw [Finset.mem_filter, Finset.mem_range, Finset.mem_range]; omega

end Cert.PrefixProof

end
-- ==== Proof.KernelValue.lean ====
/-
# What the kernel computes

Over the extended reals, when each device starts with its block of one array of 32768 rows, row `r` of the result of device
`c` is, in each column, the product of the array's rows `0` to `1024 c + r`.
-/
module

public import proofs.«01_k».proof.Proof.Launch
public import proofs.«01_k».proof.Proof.Products
public import Idealize.ShloMosaic.Lib.Layout

@[expose] public section

noncomputable section

namespace Cert.PrefixProof

open Cert.KernelIdeal Cert.KernelIdeal.Gen

open Idealize.ShloMosaic Idealize.ShloMosaic.ValueIdx
open Idealize.ShloMosaic.TcCoe
open Idealize.SL.Sem

/-! ## The row product -/

set_option maxRecDepth 8192 in
/-- The row a device sends holds each column's product over the device's block. -/
theorem row_value (x : FVec Ideal S1024x512 .f32) (j : Fin 512) :
    (k0_pay4 (k0_pay3 (F := Ideal) x) (ix2 0 j) : EReal) = ∏ i ∈ Finset.range 1024, col x j i := by
  have h : (∏ r : Fin 1, (k0_pay3 (F := Ideal) x (ix2 r j) : EReal)) = ∏ i ∈ Finset.range 1024, col x j i := by
    unfold k0_pay3 k0_pay2
    rw [shapeCast_self]
    iterate 10 refine halve (by rfl) _ _ _ j ?_
    rw [Finset.prod_range]
    exact Finset.prod_congr rfl fun r _ => (col_of_lt x j r.isLt).symm
  rw [← h, Fin.prod_univ_one]
  unfold k0_pay4
  rw [shapeCast_self]

/-! ## The running product -/

set_option maxRecDepth 8192 in
/-- The scan of a block holds each column's running product. -/
theorem scan_value (x : FVec Ideal S1024x512 .f32) (r : Fin 1024) (j : Fin 512) :
    (k0_pay7 (F := Ideal) (k0_pay5 (k0_pay2 x)) (k0_pay6 (k0_pay2 x)) (ix2 r j) : EReal) = ∏ i ∈ Finset.range (r.val + 1), col x j i := by
  have h : Windows (col x j) j 1024 (k0_pay7 (k0_pay5 (k0_pay2 x)) (k0_pay6 (k0_pay2 x))) := by
    unfold k0_pay7 k0_pay6 k0_pay5 k0_pay2
    rw [shapeCast_self]
    refine Windows.double (s := 512) (k := 512) rfl _ _ ?_
    refine Windows.double (s := 256) (k := 768) rfl _ _ ?_
    refine Windows.double (s := 128) (k := 896) rfl _ _ ?_
    refine Windows.double (s := 64) (k := 960) rfl _ _ ?_
    refine Windows.double (s := 32) (k := 992) rfl _ _ ?_
    refine Windows.double (s := 16) (k := 1008) rfl _ _ ?_
    refine Windows.double (s := 8) (k := 1016) rfl _ _ ?_
    refine Windows.double (s := 4) (k := 1020) rfl _ _ ?_
    refine Windows.double (s := 2) (k := 1022) rfl _ _ ?_
    refine Windows.double (s := 1) (k := 1023) rfl _ _ ?_
    exact Windows.one x j
  rw [h r, Nat.sub_eq_zero_of_le (show r.val + 1 ≤ 1024 by omega), Finset.range_eq_Ico]

/-! ## The product of the devices before -/

/-- The kernel's comparison of a device's number with `k` says whether `k` is before it. -/
theorem before_word : ∀ c k : Fin 32, Scalar.cmpi .sgt (meW c) (BitVec.ofNat 32 k.val) = if k.val < c.val then 1#1 else 0#1 := by
  decide +kernel

/-- One factor: device `k`'s row where `k` is before `c`, and ones otherwise. -/
theorem step_before {e v : FVec Ideal S1x512 .f32} {B : ℕ → EReal} {c : Dev nD} {j : Fin 512} {k : ℕ} (w : BitVec 32)
    (hk : k < 32) (hw : w = BitVec.ofNat 32 k) (hv : (v (ix2 0 j) : EReal) = B k)
    (he : (e (ix2 0 j) : EReal) = ∏ i ∈ Finset.range k, if i < c.val then B i else 1) :
    (mulf e (Scalar.select (Scalar.cmpi .sgt (meW c) w) v (broadcast S1x512 oneF)) (ix2 0 j) : EReal)
      = ∏ i ∈ Finset.range (k + 1), if i < c.val then B i else 1 := by
  have hc : Scalar.cmpi .sgt (meW c) w = if k < c.val then 1#1 else 0#1 := hw ▸ before_word c ⟨k, hk⟩
  rw [Finset.prod_range_succ, ← he, mulf_apply, hc]
  congr 1
  by_cases h : k < c.val
  · rw [if_pos h, if_pos h, ← hv]; rfl
  · rw [if_neg h, if_neg h]; exact oneF_eq

variable (m : (ℓ : Loc nD τ sig) → Buf (Elt Ideal) ℓ) (ρ : Dev nD → PrngReg)

/-- The product over device `k`'s block, in column `j`. -/
def blockProd (j : Fin 512) (k : ℕ) : EReal :=
  if h : k < 32 then (rowVal m ρ (⟨k, h⟩ : Dev nD) (ix2 0 j) : EReal) else 1

set_option maxRecDepth 8192 in
set_option maxHeartbeats 0 in
/-- The result of a device: its running product times the products of the blocks before its own. -/
theorem out_value (c : Dev nD) (r : Fin 1024) (j : Fin 512) :
    (outAt m ρ c (ix2 r j) : EReal)
      = (scanAt m ρ c (ix2 r j) : EReal) * ∏ k ∈ Finset.range c.val, blockProd m ρ j k := by
  rw [← prod_before _ (by have := c.isLt; exact le_of_lt this)]
  unfold outAt k0_pay1 e30 k0_pay14 k0_pay13 e23 k0_pay12 e17 k0_pay11 e10 k0_pay10 k0_pay9 e3 k0_pay8
  dsimp only
  rw [mulf_apply, broadcastTo_apply _ _ (ix2 r j) (ix2 0 j) (fun a => by fin_cases a <;> rfl)]
  congr 1
  iterate 32 refine step_before (B := blockProd m ρ j) _ (by decide) (by rfl) (by rfl) ?_
  exact oneF_eq.trans (Finset.prod_range_zero _).symm

/-! ## The device's block of the whole array -/

/-- Column `j` of a device's block is a stretch of the whole array's column. -/
theorem col_block (v : FVec Ideal ⟨2, ![32768, 512]⟩ .f32) (c : Dev nD) (j : Fin 512) {i : ℕ} (hi : i < 1024) :
    col (Layout.block ⟨2, ![1024, 512]⟩ ⟨2, ![32768, 512]⟩ 0 32 c v) j i = col v j (1024 * c.val + i) := by
  have hc : c.val < 32 := c.isLt
  rw [col_of_lt _ j hi, col_of_lt v j (show 1024 * c.val + i < 32768 by omega), Layout.block_apply]
  refine congrArg v (funext fun a => Fin.ext ?_)
  rw [Layout.Tiles.idx_val]
  fin_cases a
  · exact congrArg (· + i) (Nat.mul_comm c.val 1024)
  · rfl

/-- The argument's one block is the whole array. -/
theorem read_x (f : (main_arg0 : Ref sig .tc).ty.Contents (Elt Ideal)) : (win0_0.blk (0 : Fin 1)).view.read (Elt Ideal) f = f := by
  funext y
  refine (View.read_apply _ _).trans (congrArg f (funext fun a => Fin.ext ?_))
  exact Pipeline.Window.rect_emb_val_of_index_zero win0_0 (0 : Fin 1) a (by revert a; decide +kernel) y

/-- And so is the result's. -/
theorem read_out (f : (main_v1 : Ref sig .tc).ty.Contents (Elt Ideal)) : (win0_1.blk (0 : Fin 1)).view.read (Elt Ideal) f = f := by
  funext y
  refine (View.read_apply _ _).trans (congrArg f (funext fun a => Fin.ext ?_))
  exact Pipeline.Window.rect_emb_val_of_index_zero win0_1 (0 : Fin 1) a (by revert a; decide +kernel) y

/-- The staged block is the device's argument. -/
theorem xstg_eq (c : Dev nD) : xstg m ρ c = m ((c : Thread nD τ).loc main_arg0) := read_x _

set_option maxRecDepth 8192 in
/-- Row `r` of device `c`'s result: the product of rows `0` to `1024 c + r` of the whole array. -/
theorem out_prefix (v : FVec Ideal ⟨2, ![32768, 512]⟩ .f32)
    (hm : ∀ c : Dev nD, m ((c : Thread nD τ).loc main_arg0) = Layout.block ⟨2, ![1024, 512]⟩ ⟨2, ![32768, 512]⟩ 0 32 c v)
    (c : Dev nD) (r : Fin 1024) (j : Fin 512) :
    (outAt m ρ c (ix2 r j) : EReal) = ∏ i ∈ Finset.range (1024 * c.val + r.val + 1), col v j i := by
  have hx : ∀ d : Dev nD, xstg m ρ d = Layout.block ⟨2, ![1024, 512]⟩ ⟨2, ![32768, 512]⟩ 0 32 d v :=
    fun d => (xstg_eq m ρ d).trans (hm d)
  have hs : (scanAt m ρ c (ix2 r j) : EReal) = ∏ i ∈ Finset.range (r.val + 1), col v j (1024 * c.val + i) := by
    unfold scanAt
    rw [scan_value, hx]
    exact Finset.prod_congr rfl fun i hi => col_block v c j (by have := Finset.mem_range.1 hi; omega)
  have hb : ∀ k ∈ Finset.range c.val, blockProd m ρ j k = ∏ i ∈ Finset.range 1024, col v j (1024 * k + i) := fun k hk => by
    have hk' : k < 32 := (Finset.mem_range.1 hk).trans c.isLt
    unfold blockProd rowVal
    rw [dif_pos hk', row_value, hx]
    exact Finset.prod_congr rfl fun i hi => col_block v ⟨k, hk'⟩ j (Finset.mem_range.1 hi)
  rw [out_value, hs, Finset.prod_congr rfl hb, prod_blocks, mul_comm, add_assoc]
  exact (Finset.prod_range_add (col v j) (1024 * c.val) (r.val + 1)).symm

/-! ## The result array -/

/-- The result array ends at what the body computed: its one block is written back from what the body left. -/
theorem finalA_out (c : Dev nD) : finalA m ρ c (1 : Fin 2) = outAt m ρ c := by
  refine (read_out _).symm.trans ?_
  unfold finalA
  rw [show cfg0.N = ((0 : Fin 1) : Fin cfg0.N).val + 1 from rfl, (dats m ρ 0 c).arrAt_succ (1 : Fin 2) (0 : Fin 1),
    if_pos (flush0_1 (0 : Fin 1))]
  exact View.read_write_univ _ _

end Cert.PrefixProof

end
-- ==== Proof.RefValue.lean ====
/-
# What the reference computes

The reference walks down the rows of its array, multiplying each into the product so far and writing that product in the
row of the result. After `k` trips the product carried is that of the first `k` rows, and each of the first `k` rows of the
result holds the product of the rows down to its own.
-/
module

public import proofs.«01_k».proof.Proof.Gen.ReferenceIdeal.Run
public import proofs.«01_k».proof.Proof.Products
public import Idealize.ShloMosaic.Lib.WordCmp

@[expose] public section

noncomputable section

namespace Cert.RunningProduct

open Cert.ReferenceIdeal Cert.ReferenceIdeal.Gen Cert.ReferenceIdeal.Value Cert.PrefixProof

open Idealize.ShloMosaic Idealize.ShloMosaic.ValueIdx Idealize.ShloMosaic.WordCmp Idealize.ShloMosaic.StableHlo
open Idealize.ShloMosaic.TcCoe
open Idealize.SL.Sem

variable (m : (ℓ : Loc nD τ sig) → Buf (Elt Ideal) ℓ)

/-! ## Where the loop starts -/

/-- The loop walks over the argument. -/
theorem entry_x (c : Dev nD) : entryContents preI m c (Proc.devRef .tc main_v2_0) = m ((c : Thread nD τ).loc main_arg0) := by
  simp only [entryContents, afterL_cons, afterL_nil]
  after_reads_simp
  rfl

/-- The product so far starts at one. -/
theorem entry_one (c : Dev nD) : entryContents preI m c (Proc.devRef .tc main_v2_2) = fun _ => oneF := by
  simp only [entryContents, afterL_cons, afterL_nil]
  after_reads_simp
  rfl

/-! ## One trip -/

/-- What holds after `k` trips, of the array `x`. -/
structure After (x : FVec Ideal ⟨2, ![32768, 512]⟩ .f32) (k : ℕ) (V : Valuation τ sig (Elt Ideal)) : Prop where
  /-- the array is there, -/
  arr : V (Proc.devRef .tc main_v2_0) = x
  /-- the counter counts the trips, -/
  ctr : V (Proc.devRef .tc main_v2_1) = fun _ => BitVec.ofNat 32 k
  /-- the product carried is that of the first `k` rows, -/
  acc : ∀ j : Fin 512, (show FVec Ideal S512 .f32 from V (Proc.devRef .tc main_v2_2)) (ix1 j) = ∏ i ∈ Finset.range k, col x j i
  /-- and row `r` of the result, one of the first `k`, that of the rows down to `r`. -/
  out : ∀ (r : Fin 32768) (j : Fin 512), r.val < k →
    (show FVec Ideal S32768x512 .f32 from V (Proc.devRef .tc main_v2_3)) (ix2 r j) = ∏ i ∈ Finset.range (r.val + 1), col x j i

/-- The start a trip reads and writes at: its row, and the first column. -/
theorem start_at {k : ℕ} (hk : k < 32768) (w : IVec S_ 32) (hw : w = fun _ => BitVec.ofNat 32 k) (a : Fin 2) :
    ((((![w, constantI S_ 32 0#32] : Fin 2 → (⟨S_, .i32⟩ : BufTy).Contents (Elt Ideal))) a (Shape.Idx.first h_S_)).toInt)
      = ((![k, 0] : Fin 2 → ℕ) a : Int) := by
  subst hw
  fin_cases a
  · exact WordCmp.toInt_ofNat_of_lt (by omega)
  · rfl

theorem row_fits {k : ℕ} (hk : k < 32768) : S32768x512.Slices ![k, 0] S1x512 :=
  ⟨rfl, fun a => by fin_cases a <;> [exact hk; exact le_refl 512]⟩

variable {x : FVec Ideal ⟨2, ![32768, 512]⟩ .f32} {k : ℕ} {V : Valuation τ sig (Elt Ideal)}

set_option maxRecDepth 8192 in
/-- A trip's product: one row more. -/
theorem After.product (h : After x k V) (hk : k < 32768) (j : Fin 512) :
    (show FVec Ideal S512 .f32 from res_main_while0b_v4 V) (ix1 j) = ∏ i ∈ Finset.range (k + 1), col x j i := by
  unfold res_main_while0b_v4
  show mulf (F := Ideal) (φ := .f32) (V (Proc.devRef .tc main_v2_2)) _ (ix1 j) = _
  rw [mulf_apply, h.arr, dynamicSlice_eq_extract _ _ _ _ ![k, 0] (row_fits hk) (start_at hk _ h.ctr)]
  rw [Finset.prod_range_succ, ← h.acc j, col_of_lt x j hk]
  refine congrArg _ ((shapeCast_dropUnit_apply ![512] _ _ (ix1 j)).trans ?_)
  exact extractStridedSlice_apply _ x _ _ _ (fun a => by
    fin_cases a
    · rfl
    · exact (Nat.zero_add _).symm)

/-- A row written over an array: the other rows stay, -/
theorem write_other (y : FVec Ideal S32768x512 .f32) (u : FVec Ideal S1x512 .f32) (hs : S32768x512.Slices ![k, 0] S1x512)
    (r : Fin 32768) (j : Fin 512) (h : r.val ≠ k) : updateSlice y u ![k, 0] hs (ix2 r j) = y (ix2 r j) := by
  refine dif_neg fun hin => h ?_
  have h0 : k ≤ r.val ∧ r.val < k + 1 := hin 0
  omega

/-- and the row it is written in is that row. -/
theorem write_row (y : FVec Ideal S32768x512 .f32) (u : FVec Ideal S1x512 .f32) (hs : S32768x512.Slices ![k, 0] S1x512)
    (r : Fin 32768) (j : Fin 512) (h : r.val = k) : updateSlice y u ![k, 0] hs (ix2 r j) = u (ix2 0 j) := by
  have hin : ∀ a : Fin 2, (![k, 0] : Fin 2 → ℕ) a ≤ (ix2 r j a).val ∧ (ix2 r j a).val < (![k, 0] : Fin 2 → ℕ) a + S1x512.size a := fun a => by
    fin_cases a
    · exact ⟨h.ge, h.symm ▸ Nat.lt_succ_self k⟩
    · exact ⟨Nat.zero_le _, (Nat.zero_add 512).symm ▸ j.isLt⟩
  refine (dif_pos hin).trans (congrArg u (funext fun a => Fin.ext ?_))
  fin_cases a
  · exact Nat.sub_eq_zero_of_le h.le
  · exact Nat.sub_zero _

set_option maxRecDepth 8192 in
/-- One trip more. -/
theorem After.step (h : After x k V) (hk : k < 32768) : After x (k + 1) (STEP V) where
  arr := (STEP_main_v2_0 V).trans h.arr
  ctr := by
    rw [STEP_main_v2_1]
    unfold step_main_v2_1
    rw [h.ctr]
    exact funext fun _ => addi_ofNat k 1
  acc j := by
    rw [STEP_main_v2_2]
    exact h.product hk j
  out r j hr := by
    rw [STEP_main_v2_3]
    unfold step_main_v2_3
    show Host.dynamicUpdateSlice (s := S32768x512) (u := S1x512) (V (Proc.devRef .tc main_v2_3)) _ _ _ (ix2 r j) = _
    rw [dynamicUpdateSlice_eq_update _ _ _ _ ![k, 0] (row_fits hk) (start_at hk _ h.ctr)]
    by_cases hrk : r.val = k
    · refine (write_row _ _ _ r j hrk).trans ?_
      rw [hrk, ← h.product hk j]
      refine congrArg (res_main_while0b_v4 V) (funext fun a => Fin.ext ?_)
      fin_cases a; rfl
    · exact (write_other _ _ _ r j hrk).trans (h.out r j (by omega))

/-! ## The whole loop -/

/-- Before the first trip. -/
theorem After.entry (c : Dev nD) : After (m ((c : Thread nD τ).loc main_arg0)) 0 (entryContents preI m c) where
  arr := entry_x m c
  ctr := ctr_entry m c
  acc j := by rw [entry_one]; exact oneF_eq.trans (Finset.prod_range_zero _).symm
  out _ _ hr := absurd hr (Nat.not_lt_zero _)

/-- After any number of trips up to the last. -/
theorem after_trips (c : Dev nD) : ∀ k ≤ 32768, After (m ((c : Thread nD τ).loc main_arg0)) k (STEP^[k] (entryContents preI m c))
  | 0, _ => After.entry m c
  | k + 1, hk => by
    rw [Function.iterate_succ_apply']
    exact (after_trips c k (by omega)).step hk

/-- The reference's result: row `r` is the product of the rows down to `r`, in each column. -/
theorem result_value (c : Dev nD) (r : Fin 32768) (j : Fin 512) :
    (show FVec Ideal S32768x512 .f32 from (STEP^[32768] (entryContents preI m c)) (Proc.devRef .tc main_v2_3)) (ix2 r j)
      = ∏ i ∈ Finset.range (r.val + 1), col (n := 32768) (m ((c : Thread nD τ).loc main_arg0)) j i :=
  (after_trips m c 32768 (le_refl _)).out r j r.isLt

end Cert.RunningProduct

end
-- ==== Proof.Equation.lean ====
/-
# The equation

Row `r` of device `c`'s result and row `1024 c + r` of the reference's are the same product.
-/
module

public import proofs.«01_k».proof.Proof.KernelValue
public import proofs.«01_k».proof.Proof.RefValue

@[expose] public section

noncomputable section

namespace Cert.PrefixProof

open Cert.KernelIdeal Cert.KernelIdeal.Gen

open Idealize.ShloMosaic Idealize.ShloMosaic.ValueIdx
open Idealize.ShloMosaic.TcCoe
open Idealize.SL.Sem

variable (m : (ℓ : Loc nD τ sig) → Buf (Elt Ideal) ℓ) (ρ : Dev nD → PrngReg)

/-- Where the rows of `w` hold the running products of `v`, of which each device has its block, each device computes its
    block of `w`. -/
theorem out_block (v w : FVec Ideal ⟨2, ![32768, 512]⟩ .f32)
    (hw : ∀ (r : Fin 32768) (j : Fin 512), w (ix2 r j) = ∏ i ∈ Finset.range (r.val + 1), col v j i)
    (hm : ∀ c : Dev nD, m ((c : Thread nD τ).loc main_arg0) = Layout.block ⟨2, ![1024, 512]⟩ ⟨2, ![32768, 512]⟩ 0 32 c v)
    (c : Dev nD) : outAt m ρ c = Layout.block ⟨2, ![1024, 512]⟩ ⟨2, ![32768, 512]⟩ 0 32 c w := by
  have key : ∀ (r : Fin 1024) (j : Fin 512),
      outAt m ρ c (ix2 r j) = (Layout.block ⟨2, ![1024, 512]⟩ ⟨2, ![32768, 512]⟩ 0 32 c w) (ix2 r j) := fun r j => by
    have hc : c.val < 32 := c.isLt
    refine (out_prefix m ρ v hm c r j).trans ((hw ⟨1024 * c.val + r.val, by omega⟩ j).symm.trans ?_)
    refine (col_of_lt w j _).symm.trans ((col_block w c j r.isLt).symm.trans ?_)
    exact col_of_lt _ j r.isLt
  funext i
  rw [show i = ix2 (i 0) (i 1) from eq_ix2 (n0 := 1024) (n1 := 512) i]
  exact key (i 0) (i 1)

end Cert.PrefixProof

end
-- ==== Proof.lean ====
/-
# The certificate

The kernel, on 32 devices, takes the running product down the rows of an array of which each device holds one block of rows.
`frame_kernel`, `frame_kernelIdeal` and `frame_reference` say that the kernel, its idealization and the reference run, leave
their argument as it was and every semaphore counter at zero; `equation` that over the extended reals each device's result is
its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SameText
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.ShloMosaic.TcCoe Idealize.SL.Sem Cert.PrefixProof

/-- The kernel as it is compiled: its run at the machine's floats, read at the argument and the counters. -/
theorem frame_kernel : Cert.quiescent_Kernel := fun m ρ _ =>
  (θ_run Cert.Kernel.defs _ _).mono (fun _ h => ⟨fun c => (h.1 c (0 : Fin 2)).trans (finalA_x m ρ c), h.2⟩)
    (run_kernel (F := Bits) m ρ)

/-- Its idealization: the same run over the extended reals. -/
theorem frame_kernelIdeal : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

/-- The reference: it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The idealization rewrites nothing. -/
theorem same_text : Cert.preserves_Kernel_KernelIdeal := trivial

/-- Each device's result is its block of the reference's. -/
theorem equation : Cert.algebraic_KernelIdeal_ReferenceIdeal := fun m ρ m' ρ' _ hm =>
  ⟨(Cert.ReferenceIdeal.Value.STEP^[32768] (StableHlo.entryContents Cert.ReferenceIdeal.Value.preI m' 0))
      (Proc.devRef .tc Cert.ReferenceIdeal.main_v2_3),
    (θ_run Cert.KernelIdeal.defs _ _).mono
      (fun _ h c => ⟨((h.1 c (1 : Fin 2)).trans (finalA_out m ρ c)).trans
          (out_block m ρ _ _ (Cert.RunningProduct.result_value m' 0) hm c),
        (h.1 c (0 : Fin 2)).trans (finalA_x m ρ c)⟩)
      (run_main (F := Ideal) m ρ),
    (θ_run Cert.ReferenceIdeal.defs _ _).mono (fun _ h => h 0) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_kernelIdeal, frame_reference, same_text, equation⟩

end Cert.Proof

end
